-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x32x384x384 : Shape := ⟨4, ![4, 32, 384, 384]⟩
abbrev S4x2x384x384 : Shape := ⟨4, ![4, 2, 384, 384]⟩
abbrev S4x1x384x384 : Shape := ⟨4, ![4, 1, 384, 384]⟩
abbrev S4x384x384x32 : Shape := ⟨4, ![4, 384, 384, 32]⟩
abbrev S4x147456x32 : Shape := ⟨3, ![4, 147456, 32]⟩
abbrev S4x384x384 : Shape := ⟨3, ![4, 384, 384]⟩
abbrev S4x288x8x64 : Shape := ⟨4, ![4, 288, 8, 64]⟩
abbrev S4x147456x33 : Shape := ⟨3, ![4, 147456, 33]⟩
abbrev S1x512x32 : Shape := ⟨3, ![1, 512, 32]⟩
abbrev S1x1x8x64 : Shape := ⟨4, ![1, 1, 8, 64]⟩
abbrev S1x36864x33 : Shape := ⟨3, ![1, 36864, 33]⟩
abbrev S1x1x1x1 : Shape := ⟨4, ![1, 1, 1, 1]⟩
abbrev S1x1x32 : Shape := ⟨3, ![1, 1, 32]⟩
abbrev S1x32 : Shape := ⟨2, ![1, 32]⟩
abbrev S1x1 : Shape := ⟨2, ![1, 1]⟩
abbrev S1x33 : Shape := ⟨2, ![1, 33]⟩
abbrev S1x1x33 : Shape := ⟨3, ![1, 1, 33]⟩
abbrev S1x9216x33 : Shape := ⟨3, ![1, 9216, 33]⟩
abbrev S1x9216x32 : Shape := ⟨3, ![1, 9216, 32]⟩
abbrev S1x9216x1 : Shape := ⟨3, ![1, 9216, 1]⟩

abbrev nBuf : Space → Nat
  | .hbm => 16
  | .vmem => 8
  | .smem => 6
  | _ => 0

abbrev bufTy : (tb : Table) → Fin (tcTables nBuf tb) → BufTy
  | .hbm, ⟨0, _⟩ => ⟨S4x32x384x384, .f32⟩
  | .hbm, ⟨1, _⟩ => ⟨S4x2x384x384, .f32⟩
  | .hbm, ⟨2, _⟩ => ⟨S4x1x384x384, .f32⟩
  | .hbm, ⟨3, _⟩ => ⟨S4x384x384x32, .f32⟩
  | .hbm, ⟨4, _⟩ => ⟨S4x147456x32, .f32⟩
  | .hbm, ⟨5, _⟩ => ⟨S4x1x384x384, .f32⟩
  | .hbm, ⟨6, _⟩ => ⟨S4x384x384, .f32⟩
  | .hbm, ⟨7, _⟩ => ⟨S4x288x8x64, .f32⟩
  | .hbm, ⟨8, _⟩ => ⟨S4x1x384x384, .f32⟩
  | .hbm, ⟨9, _⟩ => ⟨S4x384x384, .f32⟩
  | .hbm, ⟨10, _⟩ => ⟨S4x288x8x64, .f32⟩
  | .hbm, ⟨11, _⟩ => ⟨S4x288x8x64, .f32⟩
  | .hbm, ⟨12, _⟩ => ⟨S4x147456x33, .f32⟩
  | .hbm, ⟨13, _⟩ => ⟨S4x147456x32, .f32⟩
  | .hbm, ⟨14, _⟩ => ⟨S4x384x384x32, .f32⟩
  | .hbm, ⟨15, _⟩ => ⟨S4x32x384x384, .f32⟩
  | .local _ .vmem, ⟨0, _⟩ => ⟨S1x512x32, .f32⟩
  | .local _ .vmem, ⟨1, _⟩ => ⟨S1x512x32, .f32⟩
  | .local _ .vmem, ⟨2, _⟩ => ⟨S1x36864x33, .f32⟩
  | .local _ .vmem, ⟨3, _⟩ => ⟨S1x36864x33, .f32⟩
  | .local _ .vmem, ⟨4, _⟩ => ⟨S1x9216x33, .f32⟩
  | .local _ .vmem, ⟨5, _⟩ => ⟨S1x9216x33, .f32⟩
  | .local _ .vmem, ⟨6, _⟩ => ⟨S1x9216x32, .f32⟩
  | .local _ .vmem, ⟨7, _⟩ => ⟨S1x9216x32, .f32⟩
  | .local _ .smem, ⟨0, _⟩ => ⟨S1x1x8x64, .f32⟩
  | .local _ .smem, ⟨1, _⟩ => ⟨S1x1x8x64, .f32⟩
  | .local _ .smem, ⟨2, _⟩ => ⟨S1x1x8x64, .f32⟩
  | .local _ .smem, ⟨3, _⟩ => ⟨S1x1x8x64, .f32⟩
  | .local _ .smem, ⟨4, _⟩ => ⟨S1x1x8x64, .f32⟩
  | .local _ .smem, ⟨5, _⟩ => ⟨S1x1x8x64, .f32⟩
  | _, _ => ⟨S4x32x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg4_0 : Ref sig .tc := ⟨.vmem, 2, rfl⟩
abbrev cc0_stg4_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_stg1_0 : Ref sig .tc := ⟨.smem, 0, rfl⟩
abbrev cc0_stg1_1 : Ref sig .tc := ⟨.smem, 1, rfl⟩
abbrev cc0_stg2_0 : Ref sig .tc := ⟨.smem, 2, rfl⟩
abbrev cc0_stg2_1 : Ref sig .tc := ⟨.smem, 3, rfl⟩
abbrev cc0_stg3_0 : Ref sig .tc := ⟨.smem, 4, rfl⟩
abbrev cc0_stg3_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13

abbrev nD : Nat := 1
abbrev τ : Topo := Topo.v7x

variable {F : FTy → Type} [FloatOps F]

abbrev grid0 : Pipeline.Grid := ⟨3, ![4, 4, 288], ![false, false, false]⟩

@[reducible] def k0_t1_loop : Scf.Loop 32 :=
  let c0_i32_2 : BitVec 32 := 0#32
  let c512_i32_3 : BitVec 32 := 512#32
  let v5 : BitVec 32 := Scalar.addi c0_i32_2 c512_i32_3
  let c1_i32 : BitVec 32 := 1#32
  ⟨c0_i32_2, v5, c1_i32⟩
def k0_off1 (k0_t1 : Fin k0_t1_loop.trips) : Fin 4 → Nat :=
  let c0 : Index := 0#32
  let c0_19 : Index := 0#32
  let c0_i32_2 : BitVec 32 := 0#32
  let c1_i32 : BitVec 32 := 1#32
  let arg8 : BitVec 32 := Scf.iv c0_i32_2 c1_i32 k0_t1
  let c0_i32_12 : BitVec 32 := 0#32
  let v27 : BitVec 1 := Scalar.cmpi .sgt arg8 c0_i32_12
  let v28 : BitVec 32 := Scalar.extui v27
  let c0_i32_13 : BitVec 32 := 0#32
  let v29 : BitVec 1 := Scalar.cmpi .slt arg8 c0_i32_13
  let v30 : BitVec 32 := Scalar.extui v29
  let v31 : BitVec 32 := Scalar.subi v28 v30
  let c64_i32 : BitVec 32 := 64#32
  let c0_i32_14 : BitVec 32 := 0#32
  let v32 : BitVec 1 := Scalar.cmpi .sgt c64_i32 c0_i32_14
  let v33 : BitVec 32 := Scalar.extui v32
  let c0_i32_15 : BitVec 32 := 0#32
  let v34 : BitVec 1 := Scalar.cmpi .slt c64_i32 c0_i32_15
  let v35 : BitVec 32 := Scalar.extui v34
  let v36 : BitVec 32 := Scalar.subi v33 v35
  let v37 : BitVec 1 := Scalar.cmpi .ne v31 v36
  let v38 : BitVec 32 := Scalar.remsi arg8 c64_i32
  let c0_i32_16 : BitVec 32 := 0#32
  let v39 : BitVec 1 := Scalar.cmpi .ne v38 c0_i32_16
  let v40 : BitVec 1 := Scalar.andi v37 v39
  let v26 : BitVec 32 := Scalar.divsi arg8 c64_i32
  let c1_i32_17 : BitVec 32 := 1#32
  let v41 : BitVec 32 := Scalar.subi v26 c1_i32_17
  let v42 : BitVec 32 := Scalar.select v40 v41 v26
  let v45 : Index := Scalar.indexCast v42
  let c64_i32_18 : BitVec 32 := 64#32
  let v43 : BitVec 32 := Scalar.muli v42 c64_i32_18
  let v44 : BitVec 32 := Scalar.subi arg8 v43
  let v46 : Index := Scalar.indexCast v44
  ![0, 0, v45.toNat, v46.toNat]
def k0_off2 (k0_t1 : Fin k0_t1_loop.trips) : Fin 4 → Nat :=
  let c0_52 : Index := 0#32
  let c0_53 : Index := 0#32
  let c0_i32_2 : BitVec 32 := 0#32
  let c1_i32 : BitVec 32 := 1#32
  let arg8 : BitVec 32 := Scf.iv c0_i32_2 c1_i32 k0_t1
  let c0_i32_40 : BitVec 32 := 0#32
  let v99 : BitVec 1 := Scalar.cmpi .sgt arg8 c0_i32_40
  let v100 : BitVec 32 := Scalar.extui v99
  let c0_i32_41 : BitVec 32 := 0#32
  let v101 : BitVec 1 := Scalar.cmpi .slt arg8 c0_i32_41
  let v102 : BitVec 32 := Scalar.extui v101
  let v103 : BitVec 32 := Scalar.subi v100 v102
  let c64_i32_39 : BitVec 32 := 64#32
  let c0_i32_42 : BitVec 32 := 0#32
  let v104 : BitVec 1 := Scalar.cmpi .sgt c64_i32_39 c0_i32_42
  let v105 : BitVec 32 := Scalar.extui v104
  let c0_i32_43 : BitVec 32 := 0#32
  let v106 : BitVec 1 := Scalar.cmpi .slt c64_i32_39 c0_i32_43
  let v107 : BitVec 32 := Scalar.extui v106
  let v108 : BitVec 32 := Scalar.subi v105 v107
  let v109 : BitVec 1 := Scalar.cmpi .ne v103 v108
  let v110 : BitVec 32 := Scalar.remsi arg8 c64_i32_39
  let c0_i32_44 : BitVec 32 := 0#32
  let v111 : BitVec 1 := Scalar.cmpi .ne v110 c0_i32_44
  let v112 : BitVec 1 := Scalar.andi v109 v111
  let v98 : BitVec 32 := Scalar.divsi arg8 c64_i32_39
  let c1_i32_45 : BitVec 32 := 1#32
  let v113 : BitVec 32 := Scalar.subi v98 c1_i32_45
  let v114 : BitVec 32 := Scalar.select v112 v113 v98
  let v125 : Index := Scalar.indexCast v114
  let c64_i32_46 : BitVec 32 := 64#32
  let c0_i32_47 : BitVec 32 := 0#32
  let v115 : BitVec 1 := Scalar.cmpi .eq c64_i32_46 c0_i32_47
  let c1_i32_48 : BitVec 32 := 1#32
  let v116 : BitVec 32 := Scalar.select v115 c1_i32_48 c64_i32_46
  let v117 : BitVec 32 := Scalar.remsi arg8 v116
  let c0_i32_50 : BitVec 32 := 0#32
  let v119 : BitVec 1 := Scalar.cmpi .slt v117 c0_i32_50
  let c0_i32_51 : BitVec 32 := 0#32
  let v120 : BitVec 1 := Scalar.cmpi .slt v116 c0_i32_51
  let v121 : BitVec 1 := Scalar.xori v119 v120
  let c0_i32_49 : BitVec 32 := 0#32
  let v118 : BitVec 1 := Scalar.cmpi .ne v117 c0_i32_49
  let v122 : BitVec 1 := Scalar.andi v121 v118
  let v123 : BitVec 32 := Scalar.addi v117 v116
  let v124 : BitVec 32 := Scalar.select v122 v123 v117
  let v126 : Index := Scalar.indexCast v124
  ![0, 0, v125.toNat, v126.toNat]
def k0_off3 (k0_t1 : Fin k0_t1_loop.trips) : Fin 3 → Nat :=
  let c0_54 : Index := 0#32
  let c0_i32_2 : BitVec 32 := 0#32
  let c1_i32 : BitVec 32 := 1#32
  let arg8 : BitVec 32 := Scf.iv c0_i32_2 c1_i32 k0_t1
  let v129 : Index := Scalar.indexCast arg8
  let c0_55 : Index := 0#32
  ![0, v129.toNat, 0]
def k0_off4 (i : grid0.Coords) (v136 : BitVec 32) (v137 : BitVec 32) : Fin 3 → Nat :=
  let c0_70 : Index := 0#32
  let c384_i32_56 : BitVec 32 := 384#32
  let v138 : BitVec 32 := Scalar.muli v137 c384_i32_56
  let v139 : BitVec 32 := Scalar.addi v138 v136
  let arg1 : BitVec 32 := BitVec.ofNat 32 (i 1).val
  let c36864_i32 : BitVec 32 := 36864#32
  let v4 : BitVec 32 := Scalar.muli arg1 c36864_i32
  let v187 : BitVec 32 := Scalar.subi v139 v4
  let v188 : Index := Scalar.indexCast v187
  let c0_71 : Index := 0#32
  ![0, v188.toNat, 0]
def k0_cond2 (v59 : BitVec 1) (v60 : BitVec 1) (v62 : BitVec 1) (v63 : BitVec 1) (v68 : BitVec 1) (v69 : BitVec 1) (v71 : BitVec 1) (v72 : BitVec 1) (v77 : BitVec 1) (v78 : BitVec 1) (v80 : BitVec 1) (v81 : BitVec 1) (v86 : BitVec 1) (v87 : BitVec 1) (v89 : BitVec 1) (v90 : BitVec 1) : BitVec 1 :=
  let v61 : BitVec 1 := Scalar.andi v59 v60
  let v64 : BitVec 1 := Scalar.andi v62 v63
  let v65 : BitVec 1 := Scalar.andi v61 v64
  let v70 : BitVec 1 := Scalar.andi v68 v69
  let v73 : BitVec 1 := Scalar.andi v71 v72
  let v74 : BitVec 1 := Scalar.andi v70 v73
  let v93 : BitVec 1 := Scalar.ori v65 v74
  let v79 : BitVec 1 := Scalar.andi v77 v78
  let v82 : BitVec 1 := Scalar.andi v80 v81
  let v83 : BitVec 1 := Scalar.andi v79 v82
  let v94 : BitVec 1 := Scalar.ori v93 v83
  let v88 : BitVec 1 := Scalar.andi v86 v87
  let v91 : BitVec 1 := Scalar.andi v89 v90
  let v92 : BitVec 1 := Scalar.andi v88 v91
  let v95 : BitVec 1 := Scalar.ori v94 v92
  let v96 : BitVec 32 := Scalar.extui v95
  let c0_i32_38 : BitVec 32 := 0#32
  let v97 : BitVec 1 := Scalar.cmpi .ne v96 c0_i32_38
  v97

def k0_cond3 (i : grid0.Coords) (v59 : BitVec 1) (v60 : BitVec 1) (v62 : BitVec 1) (v63 : BitVec 1) (v136 : BitVec 32) (v137 : BitVec 32) : BitVec 1 :=
  let v61 : BitVec 1 := Scalar.andi v59 v60
  let v64 : BitVec 1 := Scalar.andi v62 v63
  let v65 : BitVec 1 := Scalar.andi v61 v64
  let c384_i32_56 : BitVec 32 := 384#32
  let v138 : BitVec 32 := Scalar.muli v137 c384_i32_56
  let v139 : BitVec 32 := Scalar.addi v138 v136
  let arg1 : BitVec 32 := BitVec.ofNat 32 (i 1).val
  let c36864_i32 : BitVec 32 := 36864#32
  let v4 : BitVec 32 := Scalar.muli arg1 c36864_i32
  let v140 : BitVec 1 := Scalar.cmpi .sge v139 v4
  let v141 : BitVec 1 := Scalar.andi v65 v140
  let c36864_i32_57 : BitVec 32 := 36864#32
  let v142 : BitVec 32 := Scalar.addi v4 c36864_i32_57
  let v143 : BitVec 1 := Scalar.cmpi .slt v139 v142
  let v144 : BitVec 1 := Scalar.andi v141 v143
  let v145 : BitVec 32 := Scalar.extui v144
  let c0_i32_58 : BitVec 32 := 0#32
  let v146 : BitVec 1 := Scalar.cmpi .ne v145 c0_i32_58
  v146

def k0_chk1 (i : grid0.Coords) (v59 : BitVec 1) (v60 : BitVec 1) (v62 : BitVec 1) (v63 : BitVec 1) (v68 : BitVec 1) (v69 : BitVec 1) (v71 : BitVec 1) (v72 : BitVec 1) (v77 : BitVec 1) (v78 : BitVec 1) (v80 : BitVec 1) (v81 : BitVec 1) (v86 : BitVec 1) (v87 : BitVec 1) (v89 : BitVec 1) (v90 : BitVec 1) (v136 : BitVec 32) (v137 : BitVec 32) : Prop :=
  (∀ (k0_h2 : k0_cond2 v59 v60 v62 v63 v68 v69 v71 v72 v77 v78 v80 v81 v86 v87 v89 v90 = 1#1), ∀ (k0_h3 : k0_cond3 i v59 v60 v62 v63 v136 v137 = 1#1), ∀ a, (k0_off4 i v136 v137) a + S1x1x33.size a ≤ S1x36864x33.size a)
theorem k0_off4_inb : ∀ (i : grid0.Coords) (v59 : BitVec 1) (v60 : BitVec 1) (v62 : BitVec 1) (v63 : BitVec 1) (v68 : BitVec 1) (v69 : BitVec 1) (v71 : BitVec 1) (v72 : BitVec 1) (v77 : BitVec 1) (v78 : BitVec 1) (v80 : BitVec 1) (v81 : BitVec 1) (v86 : BitVec 1) (v87 : BitVec 1) (v89 : BitVec 1) (v90 : BitVec 1) (v136 : BitVec 32) (v137 : BitVec 32) (k0_hw1 : k0_chk1 i v59 v60 v62 v63 v68 v69 v71 v72 v77 v78 v80 v81 v86 v87 v89 v90 v136 v137), ∀ (k0_h2 : k0_cond2 v59 v60 v62 v63 v68 v69 v71 v72 v77 v78 v80 v81 v86 v87 v89 v90 = 1#1), ∀ (k0_h3 : k0_cond3 i v59 v60 v62 v63 v136 v137 = 1#1), ∀ a, (k0_off4 i v136 v137) a + S1x1x33.size a ≤ S1x36864x33.size a := fun i v59 v60 v62 v63 v68 v69 v71 v72 v77 v78 v80 v81 v86 v87 v89 v90 v136 v137 k0_hw1 k0_h2 k0_h3 => k0_hw1 k0_h2 k0_h3

def k0_off5 (i : grid0.Coords) (v147 : BitVec 32) (v148 : BitVec 32) : Fin 3 → Nat :=
  let c0_70 : Index := 0#32
  let c384_i32_59 : BitVec 32 := 384#32
  let v149 : BitVec 32 := Scalar.muli v148 c384_i32_59
  let v150 : BitVec 32 := Scalar.addi v149 v147
  let arg1 : BitVec 32 := BitVec.ofNat 32 (i 1).val
  let c36864_i32 : BitVec 32 := 36864#32
  let v4 : BitVec 32 := Scalar.muli arg1 c36864_i32
  let v187 : BitVec 32 := Scalar.subi v150 v4
  let v188 : Index := Scalar.indexCast v187
  let c0_71 : Index := 0#32
  ![0, v188.toNat, 0]
def k0_cond4 (i : grid0.Coords) (v68 : BitVec 1) (v69 : BitVec 1) (v71 : BitVec 1) (v72 : BitVec 1) (v147 : BitVec 32) (v148 : BitVec 32) : BitVec 1 :=
  let v70 : BitVec 1 := Scalar.andi v68 v69
  let v73 : BitVec 1 := Scalar.andi v71 v72
  let v74 : BitVec 1 := Scalar.andi v70 v73
  let c384_i32_59 : BitVec 32 := 384#32
  let v149 : BitVec 32 := Scalar.muli v148 c384_i32_59
  let v150 : BitVec 32 := Scalar.addi v149 v147
  let arg1 : BitVec 32 := BitVec.ofNat 32 (i 1).val
  let c36864_i32 : BitVec 32 := 36864#32
  let v4 : BitVec 32 := Scalar.muli arg1 c36864_i32
  let v151 : BitVec 1 := Scalar.cmpi .sge v150 v4
  let v152 : BitVec 1 := Scalar.andi v74 v151
  let c36864_i32_60 : BitVec 32 := 36864#32
  let v153 : BitVec 32 := Scalar.addi v4 c36864_i32_60
  let v154 : BitVec 1 := Scalar.cmpi .slt v150 v153
  let v155 : BitVec 1 := Scalar.andi v152 v154
  let v156 : BitVec 32 := Scalar.extui v155
  let c0_i32_61 : BitVec 32 := 0#32
  let v157 : BitVec 1 := Scalar.cmpi .ne v156 c0_i32_61
  v157

def k0_chk2 (i : grid0.Coords) (v59 : BitVec 1) (v60 : BitVec 1) (v62 : BitVec 1) (v63 : BitVec 1) (v68 : BitVec 1) (v69 : BitVec 1) (v71 : BitVec 1) (v72 : BitVec 1) (v77 : BitVec 1) (v78 : BitVec 1) (v80 : BitVec 1) (v81 : BitVec 1) (v86 : BitVec 1) (v87 : BitVec 1) (v89 : BitVec 1) (v90 : BitVec 1) (v147 : BitVec 32) (v148 : BitVec 32) : Prop :=
  (∀ (k0_h2 : k0_cond2 v59 v60 v62 v63 v68 v69 v71 v72 v77 v78 v80 v81 v86 v87 v89 v90 = 1#1), ∀ (k0_h4 : k0_cond4 i v68 v69 v71 v72 v147 v148 = 1#1), ∀ a, (k0_off5 i v147 v148) a + S1x1x33.size a ≤ S1x36864x33.size a)
theorem k0_off5_inb : ∀ (i : grid0.Coords) (v59 : BitVec 1) (v60 : BitVec 1) (v62 : BitVec 1) (v63 : BitVec 1) (v68 : BitVec 1) (v69 : BitVec 1) (v71 : BitVec 1) (v72 : BitVec 1) (v77 : BitVec 1) (v78 : BitVec 1) (v80 : BitVec 1) (v81 : BitVec 1) (v86 : BitVec 1) (v87 : BitVec 1) (v89 : BitVec 1) (v90 : BitVec 1) (v147 : BitVec 32) (v148 : BitVec 32) (k0_hw2 : k0_chk2 i v59 v60 v62 v63 v68 v69 v71 v72 v77 v78 v80 v81 v86 v87 v89 v90 v147 v148), ∀ (k0_h2 : k0_cond2 v59 v60 v62 v63 v68 v69 v71 v72 v77 v78 v80 v81 v86 v87 v89 v90 = 1#1), ∀ (k0_h4 : k0_cond4 i v68 v69 v71 v72 v147 v148 = 1#1), ∀ a, (k0_off5 i v147 v148) a + S1x1x33.size a ≤ S1x36864x33.size a := fun i v59 v60 v62 v63 v68 v69 v71 v72 v77 v78 v80 v81 v86 v87 v89 v90 v147 v148 k0_hw2 k0_h2 k0_h4 => k0_hw2 k0_h2 k0_h4

def k0_off6 (i : grid0.Coords) (v158 : BitVec 32) (v159 : BitVec 32) : Fin 3 → Nat :=
  let c0_70 : Index := 0#32
  let c384_i32_62 : BitVec 32 := 384#32
  let v160 : BitVec 32 := Scalar.muli v159 c384_i32_62
  let v161 : BitVec 32 := Scalar.addi v160 v158
  let arg1 : BitVec 32 := BitVec.ofNat 32 (i 1).val
  let c36864_i32 : BitVec 32 := 36864#32
  let v4 : BitVec 32 := Scalar.muli arg1 c36864_i32
  let v187 : BitVec 32 := Scalar.subi v161 v4
  let v188 : Index := Scalar.indexCast v187
  let c0_71 : Index := 0#32
  ![0, v188.toNat, 0]
def k0_cond5 (i : grid0.Coords) (v77 : BitVec 1) (v78 : BitVec 1) (v80 : BitVec 1) (v81 : BitVec 1) (v158 : BitVec 32) (v159 : BitVec 32) : BitVec 1 :=
  let v79 : BitVec 1 := Scalar.andi v77 v78
  let v82 : BitVec 1 := Scalar.andi v80 v81
  let v83 : BitVec 1 := Scalar.andi v79 v82
  let c384_i32_62 : BitVec 32 := 384#32
  let v160 : BitVec 32 := Scalar.muli v159 c384_i32_62
  let v161 : BitVec 32 := Scalar.addi v160 v158
  let arg1 : BitVec 32 := BitVec.ofNat 32 (i 1).val
  let c36864_i32 : BitVec 32 := 36864#32
  let v4 : BitVec 32 := Scalar.muli arg1 c36864_i32
  let v162 : BitVec 1 := Scalar.cmpi .sge v161 v4
  let v163 : BitVec 1 := Scalar.andi v83 v162
  let c36864_i32_63 : BitVec 32 := 36864#32
  let v164 : BitVec 32 := Scalar.addi v4 c36864_i32_63
  let v165 : BitVec 1 := Scalar.cmpi .slt v161 v164
  let v166 : BitVec 1 := Scalar.andi v163 v165
  let v167 : BitVec 32 := Scalar.extui v166
  let c0_i32_64 : BitVec 32 := 0#32
  let v168 : BitVec 1 := Scalar.cmpi .ne v167 c0_i32_64
  v168

def k0_chk3 (i : grid0.Coords) (v59 : BitVec 1) (v60 : BitVec 1) (v62 : BitVec 1) (v63 : BitVec 1) (v68 : BitVec 1) (v69 : BitVec 1) (v71 : BitVec 1) (v72 : BitVec 1) (v77 : BitVec 1) (v78 : BitVec 1) (v80 : BitVec 1) (v81 : BitVec 1) (v86 : BitVec 1) (v87 : BitVec 1) (v89 : BitVec 1) (v90 : BitVec 1) (v158 : BitVec 32) (v159 : BitVec 32) : Prop :=
  (∀ (k0_h2 : k0_cond2 v59 v60 v62 v63 v68 v69 v71 v72 v77 v78 v80 v81 v86 v87 v89 v90 = 1#1), ∀ (k0_h5 : k0_cond5 i v77 v78 v80 v81 v158 v159 = 1#1), ∀ a, (k0_off6 i v158 v159) a + S1x1x33.size a ≤ S1x36864x33.size a)
theorem k0_off6_inb : ∀ (i : grid0.Coords) (v59 : BitVec 1) (v60 : BitVec 1) (v62 : BitVec 1) (v63 : BitVec 1) (v68 : BitVec 1) (v69 : BitVec 1) (v71 : BitVec 1) (v72 : BitVec 1) (v77 : BitVec 1) (v78 : BitVec 1) (v80 : BitVec 1) (v81 : BitVec 1) (v86 : BitVec 1) (v87 : BitVec 1) (v89 : BitVec 1) (v90 : BitVec 1) (v158 : BitVec 32) (v159 : BitVec 32) (k0_hw3 : k0_chk3 i v59 v60 v62 v63 v68 v69 v71 v72 v77 v78 v80 v81 v86 v87 v89 v90 v158 v159), ∀ (k0_h2 : k0_cond2 v59 v60 v62 v63 v68 v69 v71 v72 v77 v78 v80 v81 v86 v87 v89 v90 = 1#1), ∀ (k0_h5 : k0_cond5 i v77 v78 v80 v81 v158 v159 = 1#1), ∀ a, (k0_off6 i v158 v159) a + S1x1x33.size a ≤ S1x36864x33.size a := fun i v59 v60 v62 v63 v68 v69 v71 v72 v77 v78 v80 v81 v86 v87 v89 v90 v158 v159 k0_hw3 k0_h2 k0_h5 => k0_hw3 k0_h2 k0_h5

def k0_off7 (i : grid0.Coords) (v169 : BitVec 32) (v170 : BitVec 32) : Fin 3 → Nat :=
  let c0_70 : Index := 0#32
  let c384_i32_65 : BitVec 32 := 384#32
  let v171 : BitVec 32 := Scalar.muli v170 c384_i32_65
  let v172 : BitVec 32 := Scalar.addi v171 v169
  let arg1 : BitVec 32 := BitVec.ofNat 32 (i 1).val
  let c36864_i32 : BitVec 32 := 36864#32
  let v4 : BitVec 32 := Scalar.muli arg1 c36864_i32
  let v187 : BitVec 32 := Scalar.subi v172 v4
  let v188 : Index := Scalar.indexCast v187
  let c0_71 : Index := 0#32
  ![0, v188.toNat, 0]
def k0_cond6 (i : grid0.Coords) (v86 : BitVec 1) (v87 : BitVec 1) (v89 : BitVec 1) (v90 : BitVec 1) (v169 : BitVec 32) (v170 : BitVec 32) : BitVec 1 :=
  let v88 : BitVec 1 := Scalar.andi v86 v87
  let v91 : BitVec 1 := Scalar.andi v89 v90
  let v92 : BitVec 1 := Scalar.andi v88 v91
  let c384_i32_65 : BitVec 32 := 384#32
  let v171 : BitVec 32 := Scalar.muli v170 c384_i32_65
  let v172 : BitVec 32 := Scalar.addi v171 v169
  let arg1 : BitVec 32 := BitVec.ofNat 32 (i 1).val
  let c36864_i32 : BitVec 32 := 36864#32
  let v4 : BitVec 32 := Scalar.muli arg1 c36864_i32
  let v173 : BitVec 1 := Scalar.cmpi .sge v172 v4
  let v174 : BitVec 1 := Scalar.andi v92 v173
  let c36864_i32_66 : BitVec 32 := 36864#32
  let v175 : BitVec 32 := Scalar.addi v4 c36864_i32_66
  let v176 : BitVec 1 := Scalar.cmpi .slt v172 v175
  let v177 : BitVec 1 := Scalar.andi v174 v176
  let v178 : BitVec 32 := Scalar.extui v177
  let c0_i32_67 : BitVec 32 := 0#32
  let v179 : BitVec 1 := Scalar.cmpi .ne v178 c0_i32_67
  v179

def k0_chk4 (i : grid0.Coords) (v59 : BitVec 1) (v60 : BitVec 1) (v62 : BitVec 1) (v63 : BitVec 1) (v68 : BitVec 1) (v69 : BitVec 1) (v71 : BitVec 1) (v72 : BitVec 1) (v77 : BitVec 1) (v78 : BitVec 1) (v80 : BitVec 1) (v81 : BitVec 1) (v86 : BitVec 1) (v87 : BitVec 1) (v89 : BitVec 1) (v90 : BitVec 1) (v169 : BitVec 32) (v170 : BitVec 32) : Prop :=
  (∀ (k0_h2 : k0_cond2 v59 v60 v62 v63 v68 v69 v71 v72 v77 v78 v80 v81 v86 v87 v89 v90 = 1#1), ∀ (k0_h6 : k0_cond6 i v86 v87 v89 v90 v169 v170 = 1#1), ∀ a, (k0_off7 i v169 v170) a + S1x1x33.size a ≤ S1x36864x33.size a)
theorem k0_off7_inb : ∀ (i : grid0.Coords) (v59 : BitVec 1) (v60 : BitVec 1) (v62 : BitVec 1) (v63 : BitVec 1) (v68 : BitVec 1) (v69 : BitVec 1) (v71 : BitVec 1) (v72 : BitVec 1) (v77 : BitVec 1) (v78 : BitVec 1) (v80 : BitVec 1) (v81 : BitVec 1) (v86 : BitVec 1) (v87 : BitVec 1) (v89 : BitVec 1) (v90 : BitVec 1) (v169 : BitVec 32) (v170 : BitVec 32) (k0_hw4 : k0_chk4 i v59 v60 v62 v63 v68 v69 v71 v72 v77 v78 v80 v81 v86 v87 v89 v90 v169 v170), ∀ (k0_h2 : k0_cond2 v59 v60 v62 v63 v68 v69 v71 v72 v77 v78 v80 v81 v86 v87 v89 v90 = 1#1), ∀ (k0_h6 : k0_cond6 i v86 v87 v89 v90 v169 v170 = 1#1), ∀ a, (k0_off7 i v169 v170) a + S1x1x33.size a ≤ S1x36864x33.size a := fun i v59 v60 v62 v63 v68 v69 v71 v72 v77 v78 v80 v81 v86 v87 v89 v90 v169 v170 k0_hw4 k0_h2 k0_h6 => k0_hw4 k0_h2 k0_h6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .smem S1x1x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .smem S1x1x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .smem S1x1x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x36864x33 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x9216x33 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x9216x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== ReferenceIdeal.lean ====
abbrev S4x32x384x384 : Shape := ⟨4, ![4, 32, 384, 384]⟩
abbrev S4x2x384x384 : Shape := ⟨4, ![4, 2, 384, 384]⟩
abbrev S4x1x384x384 : Shape := ⟨4, ![4, 1, 384, 384]⟩
abbrev S4x33x384x384 : Shape := ⟨4, ![4, 33, 384, 384]⟩
abbrev S384 : Shape := ⟨1, ![384]⟩
abbrev S384x384 : Shape := ⟨2, ![384, 384]⟩
abbrev S1x1x384x384 : Shape := ⟨4, ![1, 1, 384, 384]⟩
abbrev S589824 : Shape := ⟨1, ![589824]⟩
abbrev S4 : Shape := ⟨1, ![4]⟩
abbrev S4x147456 : Shape := ⟨2, ![4, 147456]⟩
abbrev S4x384x384x33 : Shape := ⟨4, ![4, 384, 384, 33]⟩
abbrev S589824x33 : Shape := ⟨2, ![589824, 33]⟩
abbrev S_ : Shape := ⟨0, ![]⟩
abbrev S589824x1 : Shape := ⟨2, ![589824, 1]⟩

abbrev nBuf : Space → Nat
  | .hbm => 308
  | .vmem => 0
  | .smem => 0
  | _ => 0

abbrev hbmTy0_0 (i : Nat) : BufTy := match i % 128 with
  | 0 => ⟨S4x32x384x384, .f32⟩
  | 1 => ⟨S4x2x384x384, .f32⟩
  | 2 => ⟨S4x1x384x384, .f32⟩
  | 3 => ⟨S4x1x384x384, .f32⟩
  | 4 => ⟨S4x32x384x384, .f32⟩
  | 5 => ⟨S4x32x384x384, .f32⟩
  | 6 => ⟨S4x33x384x384, .f32⟩
  | 7 => ⟨S384, .f32⟩
  | 8 => ⟨S384, .f32⟩
  | 9 => ⟨S384x384, .f32⟩
  | 10 => ⟨S384x384, .f32⟩
  | 11 => ⟨S1x1x384x384, .f32⟩
  | 12 => ⟨S4x1x384x384, .f32⟩
  | 13 => ⟨S4x1x384x384, .f32⟩
  | 14 => ⟨S4x1x384x384, .f32⟩
  | 15 => ⟨S589824, .f32⟩
  | 16 => ⟨S1x1x384x384, .f32⟩
  | 17 => ⟨S4x1x384x384, .f32⟩
  | 18 => ⟨S4x1x384x384, .f32⟩
  | 19 => ⟨S4x1x384x384, .f32⟩
  | 20 => ⟨S589824, .f32⟩
  | 21 => ⟨S4, .i32⟩
  | 22 => ⟨S4x147456, .i32⟩
  | 23 => ⟨S589824, .i32⟩
  | 24 => ⟨S4x384x384x33, .f32⟩
  | 25 => ⟨S589824x33, .f32⟩
  | 26 => ⟨S589824, .f32⟩
  | 27 => ⟨S_, .f32⟩
  | 28 => ⟨S589824, .f32⟩
  | 29 => ⟨S589824, .i1⟩
  | 30 => ⟨S589824, .f32⟩
  | 31 => ⟨S_, .f32⟩
  | 32 => ⟨S589824, .f32⟩
  | 33 => ⟨S589824, .i1⟩
  | 34 => ⟨S589824, .i1⟩
  | 35 => ⟨S589824, .f32⟩
  | 36 => ⟨S589824, .f32⟩
  | 37 => ⟨S_, .f32⟩
  | 38 => ⟨S589824, .f32⟩
  | 39 => ⟨S589824, .f32⟩
  | 40 => ⟨S589824, .f32⟩
  | 41 => ⟨S_, .f32⟩
  | 42 => ⟨S589824, .f32⟩
  | 43 => ⟨S589824, .f32⟩
  | 44 => ⟨S589824, .f32⟩
  | 45 => ⟨S589824, .f32⟩
  | 46 => ⟨S_, .f32⟩
  | 47 => ⟨S589824, .f32⟩
  | 48 => ⟨S589824, .f32⟩
  | 49 => ⟨S589824, .f32⟩
  | 50 => ⟨S_, .f32⟩
  | 51 => ⟨S589824, .f32⟩
  | 52 => ⟨S589824, .f32⟩
  | 53 => ⟨S589824, .f32⟩
  | 54 => ⟨S589824, .f32⟩
  | 55 => ⟨S_, .f32⟩
  | 56 => ⟨S589824, .f32⟩
  | 57 => ⟨S589824, .f32⟩
  | 58 => ⟨S_, .f32⟩
  | 59 => ⟨S589824, .f32⟩
  | 60 => ⟨S589824, .f32⟩
  | 61 => ⟨S589824, .f32⟩
  | 62 => ⟨S589824, .f32⟩
  | 63 => ⟨S589824, .f32⟩
  | 64 => ⟨S_, .f32⟩
  | 65 => ⟨S589824, .f32⟩
  | 66 => ⟨S589824, .f32⟩
  | 67 => ⟨S_, .f32⟩
  | 68 => ⟨S589824, .f32⟩
  | 69 => ⟨S589824, .f32⟩
  | 70 => ⟨S589824, .f32⟩
  | 71 => ⟨S589824, .f32⟩
  | 72 => ⟨S589824, .f32⟩
  | 73 => ⟨S_, .f32⟩
  | 74 => ⟨S589824x33, .f32⟩
  | 75 => ⟨S_, .f32⟩
  | 76 => ⟨S589824, .f32⟩
  | 77 => ⟨S589824, .i1⟩
  | 78 => ⟨S589824, .i1⟩
  | 79 => ⟨S_, .f32⟩
  | 80 => ⟨S589824, .f32⟩
  | 81 => ⟨S589824, .i1⟩
  | 82 => ⟨S589824, .i1⟩
  | 83 => ⟨S_, .f32⟩
  | 84 => ⟨S589824, .f32⟩
  | 85 => ⟨S589824, .i1⟩
  | 86 => ⟨S589824, .i1⟩
  | 87 => ⟨S_, .f32⟩
  | 88 => ⟨S589824, .f32⟩
  | 89 => ⟨S589824, .i1⟩
  | 90 => ⟨S589824, .i1⟩
  | 91 => ⟨S589824, .i32⟩
  | 92 => ⟨S_, .i32⟩
  | 93 => ⟨S_, .i32⟩
  | 94 => ⟨S_, .i32⟩
  | 95 => ⟨S589824, .i32⟩
  | 96 => ⟨S589824, .i32⟩
  | 97 => ⟨S_, .i32⟩
  | 98 => ⟨S589824, .i32⟩
  | 99 => ⟨S589824, .i32⟩
  | 100 => ⟨S589824, .i32⟩
  | 101 => ⟨S_, .i32⟩
  | 102 => ⟨S_, .i32⟩
  | 103 => ⟨S_, .i32⟩
  | 104 => ⟨S589824, .i32⟩
  | 105 => ⟨S589824, .i32⟩
  | 106 => ⟨S_, .i32⟩
  | 107 => ⟨S589824, .i32⟩
  | 108 => ⟨S589824, .i32⟩
  | 109 => ⟨S_, .i32⟩
  | 110 => ⟨S589824, .i32⟩
  | 111 => ⟨S589824, .i32⟩
  | 112 => ⟨S_, .i32⟩
  | 113 => ⟨S589824, .i32⟩
  | 114 => ⟨S589824, .i32⟩
  | 115 => ⟨S589824, .i32⟩
  | 116 => ⟨S589824, .i32⟩
  | 117 => ⟨S589824, .f32⟩
  | 118 => ⟨S589824, .f32⟩
  | 119 => ⟨S589824x1, .f32⟩
  | 120 => ⟨S589824x33, .f32⟩
  | 121 => ⟨S589824x33, .f32⟩
  | 122 => ⟨S_, .i32⟩
  | 123 => ⟨S589824, .i32⟩
  | 124 => ⟨S589824, .i1⟩
  | 125 => ⟨S_, .i32⟩
  | 126 => ⟨S589824, .i32⟩
  | 127 => ⟨S589824, .i32⟩
  | _ => ⟨S4x32x384x384, .f32⟩

abbrev hbmTy0_1 (i : Nat) : BufTy := match i % 128 with
  | 0 => ⟨S589824, .i32⟩
  | 1 => ⟨S589824x1, .i32⟩
  | 2 => ⟨S589824x33, .f32⟩
  | 3 => ⟨S_, .f32⟩
  | 4 => ⟨S589824, .f32⟩
  | 5 => ⟨S589824, .i1⟩
  | 6 => ⟨S589824, .i1⟩
  | 7 => ⟨S_, .f32⟩
  | 8 => ⟨S589824, .f32⟩
  | 9 => ⟨S589824, .i1⟩
  | 10 => ⟨S589824, .i1⟩
  | 11 => ⟨S_, .f32⟩
  | 12 => ⟨S589824, .f32⟩
  | 13 => ⟨S589824, .i1⟩
  | 14 => ⟨S589824, .i1⟩
  | 15 => ⟨S_, .f32⟩
  | 16 => ⟨S589824, .f32⟩
  | 17 => ⟨S589824, .i1⟩
  | 18 => ⟨S589824, .i1⟩
  | 19 => ⟨S589824, .i32⟩
  | 20 => ⟨S_, .i32⟩
  | 21 => ⟨S_, .i32⟩
  | 22 => ⟨S_, .i32⟩
  | 23 => ⟨S589824, .i32⟩
  | 24 => ⟨S589824, .i32⟩
  | 25 => ⟨S_, .i32⟩
  | 26 => ⟨S589824, .i32⟩
  | 27 => ⟨S589824, .i32⟩
  | 28 => ⟨S589824, .i32⟩
  | 29 => ⟨S_, .i32⟩
  | 30 => ⟨S_, .i32⟩
  | 31 => ⟨S_, .i32⟩
  | 32 => ⟨S589824, .i32⟩
  | 33 => ⟨S589824, .i32⟩
  | 34 => ⟨S_, .i32⟩
  | 35 => ⟨S589824, .i32⟩
  | 36 => ⟨S589824, .i32⟩
  | 37 => ⟨S_, .i32⟩
  | 38 => ⟨S589824, .i32⟩
  | 39 => ⟨S589824, .i32⟩
  | 40 => ⟨S_, .i32⟩
  | 41 => ⟨S589824, .i32⟩
  | 42 => ⟨S589824, .i32⟩
  | 43 => ⟨S589824, .i32⟩
  | 44 => ⟨S589824, .i32⟩
  | 45 => ⟨S589824, .f32⟩
  | 46 => ⟨S589824, .f32⟩
  | 47 => ⟨S589824x1, .f32⟩
  | 48 => ⟨S589824x33, .f32⟩
  | 49 => ⟨S589824x33, .f32⟩
  | 50 => ⟨S_, .i32⟩
  | 51 => ⟨S589824, .i32⟩
  | 52 => ⟨S589824, .i1⟩
  | 53 => ⟨S_, .i32⟩
  | 54 => ⟨S589824, .i32⟩
  | 55 => ⟨S589824, .i32⟩
  | 56 => ⟨S589824, .i32⟩
  | 57 => ⟨S589824x1, .i32⟩
  | 58 => ⟨S589824x33, .f32⟩
  | 59 => ⟨S_, .f32⟩
  | 60 => ⟨S589824, .f32⟩
  | 61 => ⟨S589824, .i1⟩
  | 62 => ⟨S589824, .i1⟩
  | 63 => ⟨S_, .f32⟩
  | 64 => ⟨S589824, .f32⟩
  | 65 => ⟨S589824, .i1⟩
  | 66 => ⟨S589824, .i1⟩
  | 67 => ⟨S_, .f32⟩
  | 68 => ⟨S589824, .f32⟩
  | 69 => ⟨S589824, .i1⟩
  | 70 => ⟨S589824, .i1⟩
  | 71 => ⟨S_, .f32⟩
  | 72 => ⟨S589824, .f32⟩
  | 73 => ⟨S589824, .i1⟩
  | 74 => ⟨S589824, .i1⟩
  | 75 => ⟨S589824, .i32⟩
  | 76 => ⟨S_, .i32⟩
  | 77 => ⟨S_, .i32⟩
  | 78 => ⟨S_, .i32⟩
  | 79 => ⟨S589824, .i32⟩
  | 80 => ⟨S589824, .i32⟩
  | 81 => ⟨S_, .i32⟩
  | 82 => ⟨S589824, .i32⟩
  | 83 => ⟨S589824, .i32⟩
  | 84 => ⟨S589824, .i32⟩
  | 85 => ⟨S_, .i32⟩
  | 86 => ⟨S_, .i32⟩
  | 87 => ⟨S_, .i32⟩
  | 88 => ⟨S589824, .i32⟩
  | 89 => ⟨S589824, .i32⟩
  | 90 => ⟨S_, .i32⟩
  | 91 => ⟨S589824, .i32⟩
  | 92 => ⟨S589824, .i32⟩
  | 93 => ⟨S_, .i32⟩
  | 94 => ⟨S589824, .i32⟩
  | 95 => ⟨S589824, .i32⟩
  | 96 => ⟨S_, .i32⟩
  | 97 => ⟨S589824, .i32⟩
  | 98 => ⟨S589824, .i32⟩
  | 99 => ⟨S589824, .i32⟩
  | 100 => ⟨S589824, .i32⟩
  | 101 => ⟨S589824, .f32⟩
  | 102 => ⟨S589824, .f32⟩
  | 103 => ⟨S589824x1, .f32⟩
  | 104 => ⟨S589824x33, .f32⟩
  | 105 => ⟨S589824x33, .f32⟩
  | 106 => ⟨S_, .i32⟩
  | 107 => ⟨S589824, .i32⟩
  | 108 => ⟨S589824, .i1⟩
  | 109 => ⟨S_, .i32⟩
  | 110 => ⟨S589824, .i32⟩
  | 111 => ⟨S589824, .i32⟩
  | 112 => ⟨S589824, .i32⟩
  | 113 => ⟨S589824x1, .i32⟩
  | 114 => ⟨S589824x33, .f32⟩
  | 115 => ⟨S_, .f32⟩
  | 116 => ⟨S589824, .f32⟩
  | 117 => ⟨S589824, .i1⟩
  | 118 => ⟨S589824, .i1⟩
  | 119 => ⟨S_, .f32⟩
  | 120 => ⟨S589824, .f32⟩
  | 121 => ⟨S589824, .i1⟩
  | 122 => ⟨S589824, .i1⟩
  | 123 => ⟨S_, .f32⟩
  | 124 => ⟨S589824, .f32⟩
  | 125 => ⟨S589824, .i1⟩
  | 126 => ⟨S589824, .i1⟩
  | 127 => ⟨S_, .f32⟩
  | _ => ⟨S4x32x384x384, .f32⟩

abbrev hbmTy0_2 (i : Nat) : BufTy := match i % 128 with
  | 0 => ⟨S589824, .f32⟩
  | 1 => ⟨S589824, .i1⟩
  | 2 => ⟨S589824, .i1⟩
  | 3 => ⟨S589824, .i32⟩
  | 4 => ⟨S_, .i32⟩
  | 5 => ⟨S_, .i32⟩
  | 6 => ⟨S_, .i32⟩
  | 7 => ⟨S589824, .i32⟩
  | 8 => ⟨S589824, .i32⟩
  | 9 => ⟨S_, .i32⟩
  | 10 => ⟨S589824, .i32⟩
  | 11 => ⟨S589824, .i32⟩
  | 12 => ⟨S589824, .i32⟩
  | 13 => ⟨S_, .i32⟩
  | 14 => ⟨S_, .i32⟩
  | 15 => ⟨S_, .i32⟩
  | 16 => ⟨S589824, .i32⟩
  | 17 => ⟨S589824, .i32⟩
  | 18 => ⟨S_, .i32⟩
  | 19 => ⟨S589824, .i32⟩
  | 20 => ⟨S589824, .i32⟩
  | 21 => ⟨S_, .i32⟩
  | 22 => ⟨S589824, .i32⟩
  | 23 => ⟨S589824, .i32⟩
  | 24 => ⟨S_, .i32⟩
  | 25 => ⟨S589824, .i32⟩
  | 26 => ⟨S589824, .i32⟩
  | 27 => ⟨S589824, .i32⟩
  | 28 => ⟨S589824, .i32⟩
  | 29 => ⟨S589824, .f32⟩
  | 30 => ⟨S589824, .f32⟩
  | 31 => ⟨S589824x1, .f32⟩
  | 32 => ⟨S589824x33, .f32⟩
  | 33 => ⟨S589824x33, .f32⟩
  | 34 => ⟨S_, .i32⟩
  | 35 => ⟨S589824, .i32⟩
  | 36 => ⟨S589824, .i1⟩
  | 37 => ⟨S_, .i32⟩
  | 38 => ⟨S589824, .i32⟩
  | 39 => ⟨S589824, .i32⟩
  | 40 => ⟨S589824, .i32⟩
  | 41 => ⟨S589824x1, .i32⟩
  | 42 => ⟨S589824x33, .f32⟩
  | 43 => ⟨S4x384x384x33, .f32⟩
  | 44 => ⟨S4x33x384x384, .f32⟩
  | 45 => ⟨S4x1x384x384, .f32⟩
  | 46 => ⟨S_, .f32⟩
  | 47 => ⟨S4x1x384x384, .f32⟩
  | 48 => ⟨S4x1x384x384, .f32⟩
  | 49 => ⟨S4x32x384x384, .f32⟩
  | 50 => ⟨S4x32x384x384, .f32⟩
  | 51 => ⟨S4x32x384x384, .f32⟩
  | _ => ⟨S4x32x384x384, .f32⟩

abbrev hbmTy (i : Nat) : BufTy := match i / 128 with
  | 0 => hbmTy0_0 i
  | 1 => hbmTy0_1 i
  | 2 => hbmTy0_2 i
  | _ => ⟨S4x32x384x384, .f32⟩

abbrev bufTy : (tb : Table) → Fin (tcTables nBuf tb) → BufTy
  | .hbm, ⟨i, _⟩ => hbmTy i
  | _, _ => ⟨S4x32x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_13 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c : Ref sig .tc := ⟨.hbm, 92, rfl⟩
abbrev main_c_14 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_c_16 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_c_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_19 : Ref sig .tc := ⟨.hbm, 122, rfl⟩
abbrev main_v88 : Ref sig .tc := ⟨.hbm, 123, rfl⟩
abbrev main_v89 : Ref sig .tc := ⟨.hbm, 124, rfl⟩
abbrev main_c_20 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_21 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_22 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_23 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_24 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_25 : Ref sig .tc := ⟨.hbm, 148, rfl⟩
abbrev main_c_26 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_v108 : Ref sig .tc := ⟨.hbm, 155, rfl⟩
abbrev main_v109 : Ref sig .tc := ⟨.hbm, 156, rfl⟩
abbrev main_c_27 : Ref sig .tc := ⟨.hbm, 157, rfl⟩
abbrev main_c_28 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_v110 : Ref sig .tc := ⟨.hbm, 164, rfl⟩
abbrev main_c_29 : Ref sig .tc := ⟨.hbm, 165, rfl⟩
abbrev main_v111 : Ref sig .tc := ⟨.hbm, 166, rfl⟩
abbrev main_v112 : Ref sig .tc := ⟨.hbm, 167, rfl⟩
abbrev main_c_30 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_c_31 : Ref sig .tc := ⟨.hbm, 178, rfl⟩
abbrev main_v122 : Ref sig .tc := ⟨.hbm, 179, rfl⟩
abbrev main_v123 : Ref sig .tc := ⟨.hbm, 180, rfl⟩
abbrev main_c_32 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_cst_33 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_34 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_35 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_cst_36 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_c_37 : Ref sig .tc := ⟨.hbm, 204, rfl⟩
abbrev main_c_38 : Ref sig .tc := ⟨.hbm, 205, rfl⟩
abbrev main_call4_v0 : Ref sig .tc := ⟨.hbm, 206, rfl⟩
abbrev main_call4_v1 : Ref sig .tc := ⟨.hbm, 207, rfl⟩
abbrev main_call4_v2 : Ref sig .tc := ⟨.hbm, 208, rfl⟩
abbrev main_call4_v3 : Ref sig .tc := ⟨.hbm, 209, rfl⟩
abbrev main_call4_v4 : Ref sig .tc := ⟨.hbm, 210, rfl⟩
abbrev main_v142 : Ref sig .tc := ⟨.hbm, 211, rfl⟩
abbrev main_v143 : Ref sig .tc := ⟨.hbm, 212, rfl⟩
abbrev main_c_39 : Ref sig .tc := ⟨.hbm, 213, rfl⟩
abbrev main_c_40 : Ref sig .tc := ⟨.hbm, 214, rfl⟩
abbrev main_call5_v0 : Ref sig .tc := ⟨.hbm, 215, rfl⟩
abbrev main_call5_v1 : Ref sig .tc := ⟨.hbm, 216, rfl⟩
abbrev main_call5_v2 : Ref sig .tc := ⟨.hbm, 217, rfl⟩
abbrev main_call5_v3 : Ref sig .tc := ⟨.hbm, 218, rfl⟩
abbrev main_call5_v4 : Ref sig .tc := ⟨.hbm, 219, rfl⟩
abbrev main_v144 : Ref sig .tc := ⟨.hbm, 220, rfl⟩
abbrev main_c_41 : Ref sig .tc := ⟨.hbm, 221, rfl⟩
abbrev main_v145 : Ref sig .tc := ⟨.hbm, 222, rfl⟩
abbrev main_v146 : Ref sig .tc := ⟨.hbm, 223, rfl⟩
abbrev main_c_42 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_c_43 : Ref sig .tc := ⟨.hbm, 234, rfl⟩
abbrev main_v156 : Ref sig .tc := ⟨.hbm, 235, rfl⟩
abbrev main_v157 : Ref sig .tc := ⟨.hbm, 236, rfl⟩
abbrev main_c_44 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_cst_45 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_cst_46 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_cst_47 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_cst_48 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_c_49 : Ref sig .tc := ⟨.hbm, 260, rfl⟩
abbrev main_c_50 : Ref sig .tc := ⟨.hbm, 261, rfl⟩
abbrev main_call6_v0 : Ref sig .tc := ⟨.hbm, 262, rfl⟩
abbrev main_call6_v1 : Ref sig .tc := ⟨.hbm, 263, rfl⟩
abbrev main_call6_v2 : Ref sig .tc := ⟨.hbm, 264, rfl⟩
abbrev main_call6_v3 : Ref sig .tc := ⟨.hbm, 265, rfl⟩
abbrev main_call6_v4 : Ref sig .tc := ⟨.hbm, 266, rfl⟩
abbrev main_v176 : Ref sig .tc := ⟨.hbm, 267, rfl⟩
abbrev main_v177 : Ref sig .tc := ⟨.hbm, 268, rfl⟩
abbrev main_c_51 : Ref sig .tc := ⟨.hbm, 269, rfl⟩
abbrev main_c_52 : Ref sig .tc := ⟨.hbm, 270, rfl⟩
abbrev main_call7_v0 : Ref sig .tc := ⟨.hbm, 271, rfl⟩
abbrev main_call7_v1 : Ref sig .tc := ⟨.hbm, 272, rfl⟩
abbrev main_call7_v2 : Ref sig .tc := ⟨.hbm, 273, rfl⟩
abbrev main_call7_v3 : Ref sig .tc := ⟨.hbm, 274, rfl⟩
abbrev main_call7_v4 : Ref sig .tc := ⟨.hbm, 275, rfl⟩
abbrev main_v178 : Ref sig .tc := ⟨.hbm, 276, rfl⟩
abbrev main_c_53 : Ref sig .tc := ⟨.hbm, 277, rfl⟩
abbrev main_v179 : Ref sig .tc := ⟨.hbm, 278, rfl⟩
abbrev main_v180 : Ref sig .tc := ⟨.hbm, 279, rfl⟩
abbrev main_c_54 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_c_55 : Ref sig .tc := ⟨.hbm, 290, rfl⟩
abbrev main_v190 : Ref sig .tc := ⟨.hbm, 291, rfl⟩
abbrev main_v191 : Ref sig .tc := ⟨.hbm, 292, rfl⟩
abbrev main_c_56 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_cst_57 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩

abbrev nD : Nat := 1
abbrev τ : Topo := Topo.v7x

variable {F : FTy → Type} [FloatOps F]
-- ==== Proof.Words.lean ====
module

public import proofs.«01_k».proof.Proof.Gen.KernelIdeal.Loops
public import Idealize.ShloMosaic.Lib.WordCmp

@[expose] public section

set_option maxRecDepth 16384

noncomputable section

namespace Cert.Proof

open Idealize.ShloMosaic Idealize.ShloMosaic.WordCmp Cert.KernelIdeal Cert.KernelIdeal.Gen

/-- Two bits whose conjunction is set are set. -/
theorem andi_one {a b : BitVec 1} : Scalar.andi a b = 1#1 ↔ a = 1#1 ∧ b = 1#1 := by
  revert a b; decide

/-- A bit widened to a word differs from zero exactly when it is set. -/
theorem ne_extui_one (b : BitVec 1) : Scalar.cmpi .ne (Scalar.extui b : BitVec 32) 0#32 = b := by
  revert b; decide

/-- "At least `B` and below `B + 36864`, both read signed" says that the word's row lies in the 36864 rows from `B` on. -/
theorem row_iff {x B : BitVec 32} (hB : B.toNat ≤ 110592) :
    (Scalar.cmpi .sge x B = 1#1 ∧ Scalar.cmpi .slt x (Scalar.addi B 36864#32) = 1#1)
      ↔ B.toNat ≤ x.toNat ∧ x.toNat < B.toNat + 36864 := by
  have e1 : Scalar.cmpi .sge x B = 1#1 ↔ B.toInt ≤ x.toInt := by
    rw [show Scalar.cmpi .sge x B = IntOp.cmpi .sge x B from rfl, cmpi_sge_eq, ofBool_decide_eq_one_iff]
  have e2 : Scalar.cmpi .slt x (Scalar.addi B 36864#32) = 1#1 ↔ x.toInt < (B + 36864#32).toInt := by
    rw [show Scalar.cmpi .slt x (Scalar.addi B 36864#32) = IntOp.cmpi .slt x (B + 36864#32) from rfl, cmpi_slt_eq, ofBool_decide_eq_one_iff]
  have eB : B.toInt = B.toNat := toInt_eq_toNat_of_lt_half (by omega)
  have eB' : (B + 36864#32).toNat = B.toNat + 36864 := by rw [BitVec.toNat_add]; simp; omega
  have eB2 : (B + 36864#32).toInt = (B.toNat + 36864 : ℕ) := by rw [toInt_eq_toNat_of_lt_half (by omega), eB']
  have ex := BitVec.toInt_eq_toNat_cond x
  have h3 := x.isLt
  rw [e1, e2, eB, eB2]
  split at ex <;> omega

/-- The first row of chunk `i 1`, as the kernel computes it. -/
theorem base_toNat (i : grid0.Coords) : (Scalar.muli (BitVec.ofNat 32 (i 1).val) 36864#32).toNat = (i 1).val * 36864 := by
  have : (i 1).val < 4 := (i 1).isLt
  show (BitVec.ofNat 32 (i 1).val * 36864#32).toNat = _
  rw [BitVec.toNat_mul]; simp; omega

/-- The row word of a corner: its vertical position times 384 plus its horizontal one. -/
def rowW (x y : BitVec 32) : BitVec 32 := Scalar.addi (Scalar.muli y 384#32) x

/-- A corner's condition: its four comparisons hold and its row lies in the point's chunk. -/
theorem cond3_iff (i : grid0.Coords) (a b c d : BitVec 1) (x y : BitVec 32) :
    k0_cond3 i a b c d x y = 1#1 ↔ ((a = 1#1 ∧ b = 1#1) ∧ c = 1#1 ∧ d = 1#1)
      ∧ (i 1).val * 36864 ≤ (rowW x y).toNat ∧ (rowW x y).toNat < (i 1).val * 36864 + 36864 := by
  have e : k0_cond3 i a b c d x y = Scalar.cmpi .ne (Scalar.extui (Scalar.andi (Scalar.andi (Scalar.andi (Scalar.andi a b) (Scalar.andi c d))
      (Scalar.cmpi .sge (rowW x y) (Scalar.muli (BitVec.ofNat 32 (i 1).val) 36864#32)))
      (Scalar.cmpi .slt (rowW x y) (Scalar.addi (Scalar.muli (BitVec.ofNat 32 (i 1).val) 36864#32) 36864#32))) : BitVec 32) 0#32 := rfl
  rw [e, ne_extui_one, andi_one, andi_one, andi_one, andi_one, andi_one, ← base_toNat i,
    ← row_iff (x := rowW x y) (by have : (i 1).val < 4 := (i 1).isLt; rw [base_toNat]; omega), and_assoc]

/-- Where a corner whose condition holds adds: at its row, counted from the chunk's first. -/
theorem off4_eq (i : grid0.Coords) (a b c d : BitVec 1) (x y : BitVec 32) (h : k0_cond3 i a b c d x y = 1#1) :
    k0_off4 i x y = ![0, (rowW x y).toNat - (i 1).val * 36864, 0] := by
  have h2 := ((cond3_iff i a b c d x y).mp h).2
  rw [← base_toNat i] at h2 ⊢
  have hs : (Scalar.subi (rowW x y) (Scalar.muli (BitVec.ofNat 32 (i 1).val) 36864#32)).toNat
      = (rowW x y).toNat - (Scalar.muli (BitVec.ofNat 32 (i 1).val) 36864#32).toNat := by
    show (_ - _ : BitVec 32).toNat = _
    rw [BitVec.toNat_sub]; have := (rowW x y).isLt; omega
  rw [← hs]; rfl

/-- A corner whose condition holds adds inside the accumulator. -/
theorem off4_inb (i : grid0.Coords) (a b c d : BitVec 1) (x y : BitVec 32) (h : k0_cond3 i a b c d x y = 1#1) :
    ∀ k, k0_off4 i x y k + S1x1x33.size k ≤ S1x36864x33.size k := by
  have h2 := ((cond3_iff i a b c d x y).mp h).2
  rw [off4_eq i a b c d x y h]
  intro k
  fin_cases k
  · exact Nat.le_refl 1
  · show _ - _ + 1 ≤ 36864; omega
  · exact Nat.le_refl 33

/-! The kernel asks, for each corner, that its row be inside the accumulator whenever its condition holds. It always is. -/

/-- The first corner's check holds whatever the words are. -/
theorem chk1_all (i : grid0.Coords) (a b c d e f g h j k l m n o p q : BitVec 1) (x y : BitVec 32) :
    k0_chk1 i a b c d e f g h j k l m n o p q x y := fun _ h3 => off4_inb i a b c d x y h3
/-- The second corner's check holds whatever the words are. -/
theorem chk2_all (i : grid0.Coords) (a b c d e f g h j k l m n o p q : BitVec 1) (x y : BitVec 32) :
    k0_chk2 i a b c d e f g h j k l m n o p q x y := fun _ h3 => off4_inb i e f g h x y h3
/-- The third corner's check holds whatever the words are. -/
theorem chk3_all (i : grid0.Coords) (a b c d e f g h j k l m n o p q : BitVec 1) (x y : BitVec 32) :
    k0_chk3 i a b c d e f g h j k l m n o p q x y := fun _ h3 => off4_inb i j k l m x y h3
/-- The fourth corner's check holds whatever the words are. -/
theorem chk4_all (i : grid0.Coords) (a b c d e f g h j k l m n o p q : BitVec 1) (x y : BitVec 32) :
    k0_chk4 i a b c d e f g h j k l m n o p q x y := fun _ h3 => off4_inb i n o p q x y h3

/-- The bit that a corner is inside the image, from its four comparisons. -/
def inside (a b c d : BitVec 1) : BitVec 1 := Scalar.andi (Scalar.andi a b) (Scalar.andi c d)

/-- A corner whose condition holds is inside the image. -/
theorem inside_of_cond3 {i : grid0.Coords} {a b c d : BitVec 1} {x y : BitVec 32} (H : k0_cond3 i a b c d x y = 1#1) :
    inside a b c d = 1#1 := by
  unfold inside
  rw [andi_one, andi_one, andi_one]; exact ((cond3_iff i a b c d x y).mp H).1

/-- A pixel is looked at as soon as one of its four corners is inside the image. -/
theorem cond2_of_inside (a b c d e f g h j k l m n o p q : BitVec 1)
    (H : inside a b c d = 1#1 ∨ inside e f g h = 1#1 ∨ inside j k l m = 1#1 ∨ inside n o p q = 1#1) :
    k0_cond2 a b c d e f g h j k l m n o p q = 1#1 := by
  have E : k0_cond2 a b c d e f g h j k l m n o p q = Scalar.cmpi .ne (Scalar.extui (Scalar.ori (Scalar.ori (Scalar.ori
      (inside a b c d) (inside e f g h)) (inside j k l m)) (inside n o p q)) : BitVec 32) 0#32 := rfl
  rw [E, ne_extui_one]
  generalize inside a b c d = A at H ⊢; generalize inside e f g h = B at H ⊢
  generalize inside j k l m = C at H ⊢; generalize inside n o p q = D at H ⊢
  revert A B C D; decide

end Cert.Proof
end
-- ==== Proof.Corner.lean ====
module

public import proofs.«01_k».proof.Proof.Words
public import Idealize.ShloMosaic.Lib.WritesUnit
public import Idealize.ShloMosaic.Lib.Pointwise

@[expose] public section

set_option maxRecDepth 16384

noncomputable section

namespace Cert.Proof

open Idealize.ShloMosaic Cert.KernelIdeal Cert.KernelIdeal.Gen

variable {F : FTy → Type} [FloatOps F]

/-- The accumulator's block: 36864 rows of 33 channels. -/
abbrev Acc (F : FTy → Type) : Type := S1x36864x33.Idx → F .f32

/-- The bit that a corner at `px`, `py` adds to its row of chunk `i 1`: it is inside the image and its row is in the chunk. -/
def hits (i : grid0.Coords) (px py : F .f32) : BitVec 1 :=
  k0_cond3 i (Scalar.cmpf .oge px (Scalar.ofBits .f32 0x00000000#32)) (Scalar.cmpf .olt px (Scalar.ofBits .f32 0x43C00000#32))
    (Scalar.cmpf .oge py (Scalar.ofBits .f32 0x00000000#32)) (Scalar.cmpf .olt py (Scalar.ofBits .f32 0x43C00000#32))
    (Scalar.fptosi 32 px) (Scalar.fptosi 32 py)

/-- What a corner at `px`, `py` weighs for a pixel that flows to `fx`, `fy`. -/
def weight (fx fy px py : F .f32) : F .f32 :=
  Scalar.mulf (Scalar.subf (Scalar.ofBits .f32 0x3F800000#32) (Scalar.absf (Scalar.subf fx px)))
    (Scalar.subf (Scalar.ofBits .f32 0x3F800000#32) (Scalar.absf (Scalar.subf fy py)))

/-- One corner's update of the accumulator: if it hits the chunk, its weight times the pixel's row of 33 values is added
to its row; every other row stays. -/
def cornerPut (i : grid0.Coords) (fx fy px py : F .f32) (row : FVec F S1x33 .f32) (X : Acc F) : Acc F := fun y =>
  if hits i px py = 1#1 ∧ (y 1).val = (rowW (Scalar.fptosi 32 px) (Scalar.fptosi 32 py)).toNat - (i 1).val * 36864 then
    FloatOps.addf (X y) (FloatOps.mulf (weight fx fy px py) (row (ix2 (0 : Fin 1) (y 2))))
  else X y

/-- A corner that does not hit the chunk leaves the accumulator. -/
theorem cornerPut_neg {i : grid0.Coords} {fx fy px py : F .f32} {row : FVec F S1x33 .f32} {X : Acc F} (h : ¬ hits i px py = 1#1) :
    cornerPut i fx fy px py row X = X := by
  funext y; unfold cornerPut; rw [if_neg (fun H => h H.1)]

/-- The stored row at channel `c`: the row loaded plus the weight times the pixel's value. -/
theorem pay3_apply (fx fy px py : F .f32) (row : FVec F S1x33 .f32) (v : Vec F S1x1x33 .f32) (z : S1x1x33.Idx) :
    k0_pay3 fx fy px py row v z = FloatOps.addf (v z) (FloatOps.mulf (weight fx fy px py) (row (ix2 (0 : Fin 1) (z 2)))) := by
  idx_vars z
  unfold k0_pay3 weight
  obtain rfl : z0 = 0 := Subsingleton.elim _ _
  obtain rfl : z1 = 0 := Subsingleton.elim _ _
  pointwise

variable {v : View sig .tc .vmem S1x36864x33 .f32}

/-- Reading the accumulator after a corner that hits has loaded its row, added and stored it. -/
theorem read_corner (i : grid0.Coords) (fx fy px py : F .f32) (row : FVec F S1x33 .f32) (f : v.ty.Contents (Elt F))
    (h : hits i px py = 1#1) (inb inb') :
    View.read (Elt F) v (v.writes (Elt F) f [⟨Rect.unit (s := S1x36864x33) (k0_off4 i (Scalar.fptosi 32 px) (Scalar.fptosi 32 py)) S1x1x33.size inb,
        k0_pay3 fx fy px py row (View.readAt (Elt F) v (Rect.unit (s := S1x36864x33) (k0_off4 i (Scalar.fptosi 32 px) (Scalar.fptosi 32 py)) S1x1x33.size inb').toLoadRect f)⟩])
      = cornerPut i fx fy px py row (View.read (Elt F) v f) := by
  funext y
  rw [View.read_writes_cons_unit v f inb _ [] y (off4_eq i _ _ _ _ _ _ h)]
  by_cases hy : (y 1).val = (rowW (Scalar.fptosi 32 px) (Scalar.fptosi 32 py)).toNat - (i 1).val * 36864
  · have hm : ∀ a, (![0, (rowW (Scalar.fptosi 32 px) (Scalar.fptosi 32 py)).toNat - (i 1).val * 36864, 0] : Fin 3 → ℕ) a ≤ (y a).val
        ∧ (y a).val < (![0, (rowW (Scalar.fptosi 32 px) (Scalar.fptosi 32 py)).toNat - (i 1).val * 36864, 0] : Fin 3 → ℕ) a + S1x1x33.size a := by
      intro a
      fin_cases a
      · exact ⟨Nat.zero_le _, (y 0).isLt⟩
      · exact ⟨hy.ge, Nat.lt_succ_of_le hy.le⟩
      · exact ⟨Nat.zero_le _, by show (y 2).val < 0 + 33; have := (y 2).isLt; simpa using this⟩
    rw [dif_pos hm]
    unfold cornerPut
    rw [if_pos ⟨h, hy⟩, pay3_apply, View.readAt_apply]
    have ey : (Rect.unit (s := S1x36864x33) (k0_off4 i (Scalar.fptosi 32 px) (Scalar.fptosi 32 py)) S1x1x33.size inb').idx
        (Rect.unitLocal (s := S1x36864x33) y hm) = y := by
      funext a
      refine Fin.ext ?_
      show k0_off4 i (Scalar.fptosi 32 px) (Scalar.fptosi 32 py) a + 1 * ((y a).val - _) = (y a).val
      rw [congrFun (off4_eq i _ _ _ _ _ _ h) a]
      have := hm a
      omega
    have e2 : (Rect.unitLocal (s := S1x36864x33) y hm) 2 = y 2 := Fin.ext (Nat.sub_zero _)
    exact congrArg₂ (fun p q => FloatOps.addf (View.read (Elt F) v f p) (FloatOps.mulf (weight fx fy px py) (row (ix2 (0 : Fin 1) q)))) ey e2
  · rw [dif_neg (by intro H; have h1 := (H 1).1; have h2 := (H 1).2; change _ ≤ (y 1).val at h1; change (y 1).val < _ + 1 at h2; exact hy (by show (y 1).val = _; exact Nat.le_antisymm (Nat.lt_succ_iff.mp h2) h1))]
    unfold cornerPut
    rw [if_neg (fun H => hy H.2)]; rfl

/-- The same when the corner may hit or not: the rest of the buffer is left as it was. -/
theorem read_corner_dite (i : grid0.Coords) (fx fy px py : F .f32) (row : FVec F S1x33 .f32) (f : v.ty.Contents (Elt F)) :
    View.read (Elt F) v (if h : hits i px py = 1#1 then
        v.writes (Elt F) f [⟨Rect.unit (s := S1x36864x33) (k0_off4 i (Scalar.fptosi 32 px) (Scalar.fptosi 32 py)) S1x1x33.size (off4_inb i _ _ _ _ _ _ h),
          k0_pay3 fx fy px py row (View.readAt (Elt F) v
            (Rect.unit (s := S1x36864x33) (k0_off4 i (Scalar.fptosi 32 px) (Scalar.fptosi 32 py)) S1x1x33.size (off4_inb i _ _ _ _ _ _ h)).toLoadRect f)⟩]
        else f)
      = cornerPut i fx fy px py row (View.read (Elt F) v f) := by
  by_cases h : hits i px py = 1#1
  · rw [dif_pos h]; exact read_corner i fx fy px py row f h _ _
  · rw [dif_neg h, cornerPut_neg h]

/-- The number of pixel `k` of the stretch of 512 that begins at the word `v3`. -/
def pixW (v3 : BitVec 32) (k : Fin k0_t1_loop.trips) : BitVec 32 := Scalar.addi v3 (Scf.iv 0#32 1#32 k)

/-- The pixel's image row, as the kernel computes it: the number divided by 384, rounded down. -/
def pixRow (v3 : BitVec 32) (k : Fin k0_t1_loop.trips) : BitVec 32 :=
  Scalar.select (Scalar.andi
      (Scalar.cmpi .ne
        (Scalar.subi (Scalar.extui (Scalar.cmpi .sgt (pixW v3 k) 0#32)) (Scalar.extui (Scalar.cmpi .slt (pixW v3 k) 0#32)) : BitVec 32)
        (Scalar.subi (Scalar.extui (Scalar.cmpi .sgt 384#32 0#32)) (Scalar.extui (Scalar.cmpi .slt 384#32 0#32))))
      (Scalar.cmpi .ne (Scalar.remsi (pixW v3 k) 384#32) 0#32))
    (Scalar.subi (Scalar.divsi (pixW v3 k) 384#32) 1#32) (Scalar.divsi (pixW v3 k) 384#32)

/-- The pixel's image column: what is left of the number. -/
def pixCol (v3 : BitVec 32) (k : Fin k0_t1_loop.trips) : BitVec 32 :=
  Scalar.subi (pixW v3 k) (Scalar.muli (pixRow v3 k) 384#32)

/-- One pixel's update of the accumulator: its four corners', one after another. `a` and `b` are its horizontal and vertical
flow, `row` its 33 weighted values. -/
def pixelPut (i : grid0.Coords) (v3 : BitVec 32) (k : Fin k0_t1_loop.trips) (a b : F .f32) (row : FVec F S1x33 .f32) (X : Acc F) : Acc F :=
  cornerPut i (k0_pay7 (pixCol v3 k) a) (k0_pay8 (pixRow v3 k) b) (k0_pay17 (pixCol v3 k) a) (k0_pay18 (pixRow v3 k) b) row
    (cornerPut i (k0_pay7 (pixCol v3 k) a) (k0_pay8 (pixRow v3 k) b) (k0_pay15 (pixCol v3 k) a) (k0_pay16 (pixRow v3 k) b) row
      (cornerPut i (k0_pay7 (pixCol v3 k) a) (k0_pay8 (pixRow v3 k) b) (k0_pay13 (pixCol v3 k) a) (k0_pay14 (pixRow v3 k) b) row
        (cornerPut i (k0_pay7 (pixCol v3 k) a) (k0_pay8 (pixRow v3 k) b) (k0_pay11 (pixCol v3 k) a) (k0_pay12 (pixRow v3 k) b) row X)))

/-- The value a block of 8 rows of 64 holds for the loop's pixel `k`, for the two blocks of flows. -/
def elt1 (x : S1x1x8x64.Idx → F .f32) (k : Fin k0_t1_loop.trips) : F .f32 :=
  x ((Rect.unit (s := S1x1x8x64) (k0_off1 k) S1x1x1x1.size (k0_off1_inb k)).idx (Shape.Idx.first (show 0 < S1x1x1x1.numel by decide)))

/-- The value a block of 8 rows of 64 holds for the loop's pixel `k`, for the block of metrics. -/
def elt2 (x : S1x1x8x64.Idx → F .f32) (k : Fin k0_t1_loop.trips) : F .f32 :=
  x ((Rect.unit (s := S1x1x8x64) (k0_off2 k) S1x1x1x1.size (k0_off2_inb k)).idx (Shape.Idx.first (show 0 < S1x1x1x1.numel by decide)))

/-- The pixel's 33 weighted values: its 32 channels times the exponential of its metric, then that exponential. -/
def rowOf (x3 : S1x512x32.Idx → F .f32) (x6 : S1x1x8x64.Idx → F .f32) (k : Fin k0_t1_loop.trips) : FVec F S1x33 .f32 :=
  k0_pay2 (elt2 x6 k) (fun z => x3 ((Rect.unit (s := S1x512x32) (k0_off3 k) S1x1x32.size (k0_off3_inb k)).idx z))

/-- One trip of the loop, as a function of the accumulator. -/
def tripPut (i : grid0.Coords) (x3 : S1x512x32.Idx → F .f32) (x4 x5 x6 : S1x1x8x64.Idx → F .f32) (k : Fin k0_t1_loop.trips)
    (X : Acc F) : Acc F :=
  pixelPut i (Scalar.muli (BitVec.ofNat 32 (i 2).val) 512#32) k (elt1 x4 k) (elt1 x5 k) (rowOf x3 x6 k) X

end Cert.Proof
-- ==== Proof.Trip.lean ====
module

public import proofs.«01_k».proof.Proof.Corner
public import Idealize.ShloMosaic.Lib.LaneScatter.Fold

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- No loop variant is needed: the loop has a fixed number of trips. -/
abbrev 𝒱₀ : Variants := Variants.none

/-- A whole buffer is owned, with the contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

set_option maxHeartbeats 4000000

/-- One trip of the loop keeps the inputs and leaves the accumulator with the corners of its pixel put in. -/
theorem trip (c : Dev nD) (i : grid0.Coords) (arg3 : Memref sig .tc .vmem S1x512x32 .f32) (harg3 : arg3.IsWhole) (arg4 : Memref sig .tc .smem S1x1x8x64 .f32) (harg4 : arg4.IsWhole) (arg5 : Memref sig .tc .smem S1x1x8x64 .f32) (harg5 : arg5.IsWhole) (arg6 : Memref sig .tc .smem S1x1x8x64 .f32) (harg6 : arg6.IsWhole) (arg7 : Memref sig .tc .vmem S1x36864x33 .f32) (harg7 : arg7.IsWhole)    (k : Fin k0_t1_loop.trips) (f3 f4 f5 f6 f7) :
   iprop(pt c arg3 f3 ∗ pt c arg4 f4 ∗ pt c arg5 f5 ∗ pt c arg6 f6 ∗ pt c arg7 f7) ⊢ wp frame (wpE (defs₀ (F := F)) 𝒱₀ (c : Thread nD τ) none) Set.univ
     (k0_t1_body (F := F) i arg3 harg3 arg4 harg4 arg5 harg5 arg6 harg6 arg7 harg7 (Scalar.muli (BitVec.ofNat 32 (i 2).val) 512#32) (Scalar.muli (BitVec.ofNat 32 (i 1).val) 36864#32) (Scalar.ofBits .f32 0x43C00000#32) (Scalar.ofBits .f32 0x43C00000#32) k ())
     (fun _ => iprop(pt c arg3 f3 ∗ pt c arg4 f4 ∗ pt c arg5 f5 ∗ pt c arg6 f6 ∗ ∃ f7', pt c arg7 f7' ∗ ⌜View.read (Elt F) arg7.view f7' = tripPut i (View.read (Elt F) arg3.view f3) (View.read (Elt F) arg4.view f4) (View.read (Elt F) arg5.view f5) (View.read (Elt F) arg6.view f6) k (View.read (Elt F) arg7.view f7)⌝)) := by
  unfold k0_t1_body
  iintro ⟨H3, H4, H5, H6, H7⟩
  sl_exec_parts (disch := first | sl_exact (chk1_all _ _ _ _ _ _ _ _ _ _ _ _ _ _ _ _ _ _ _) | sl_exact (chk2_all _ _ _ _ _ _ _ _ _ _ _ _ _ _ _ _ _ _ _) | sl_exact (chk3_all _ _ _ _ _ _ _ _ _ _ _ _ _ _ _ _ _ _ _) | sl_exact (chk4_all _ _ _ _ _ _ _ _ _ _ _ _ _ _ _ _ _ _ _))
  sl_step
  isplitl [H3]; · iexact H3
  isplitl [H4]; · iexact H4
  isplitl [H5]; · iexact H5
  isplitl [H6]; · iexact H6
  iexists _
  isplitl [H7]; · iexact H7
  ipureintro
  generalize hX : View.read (Elt F) arg7.view f7 = X
  by_cases h2 : k0_cond2 (trip.sl.v59 c i arg4 k f4) (trip.sl.v60 c i arg4 k f4) (trip.sl.v62 c i arg5 k f5)
        (trip.sl.v63 c i arg5 k f5) (trip.sl.v68 c i arg4 k f4) (trip.sl.v69 c i arg4 k f4) (trip.sl.v71 c i arg5 k f5)
        (trip.sl.v72 c i arg5 k f5) (trip.sl.v77 c i arg4 k f4) (trip.sl.v78 c i arg4 k f4) (trip.sl.v80 c i arg5 k f5)
        (trip.sl.v81 c i arg5 k f5) (trip.sl.v86 c i arg4 k f4) (trip.sl.v87 c i arg4 k f4) (trip.sl.v89 c i arg5 k f5)
        (trip.sl.v90 c i arg5 k f5) =
      1#1
  · rw [dif_pos h2]
    unfold trip.sl.v189_3
    refine (read_corner_dite i (k0_pay7 (pixCol _ k) _) (k0_pay8 (pixRow _ k) _) (k0_pay17 (pixCol _ k) _) (k0_pay18 (pixRow _ k) _) (rowOf _ _ k) _).trans ?_
    refine congrArg (cornerPut i _ _ _ _ _) ?_
    unfold trip.sl.v189_2
    refine (read_corner_dite i (k0_pay7 (pixCol _ k) _) (k0_pay8 (pixRow _ k) _) (k0_pay15 (pixCol _ k) _) (k0_pay16 (pixRow _ k) _) (rowOf _ _ k) _).trans ?_
    refine congrArg (cornerPut i _ _ _ _ _) ?_
    unfold trip.sl.v189_1
    refine (read_corner_dite i (k0_pay7 (pixCol _ k) _) (k0_pay8 (pixRow _ k) _) (k0_pay13 (pixCol _ k) _) (k0_pay14 (pixRow _ k) _) (rowOf _ _ k) _).trans ?_
    refine congrArg (cornerPut i _ _ _ _ _) ?_
    unfold trip.sl.v189
    refine (read_corner_dite i (k0_pay7 (pixCol _ k) _) (k0_pay8 (pixRow _ k) _) (k0_pay11 (pixCol _ k) _) (k0_pay12 (pixRow _ k) _) (rowOf _ _ k) _).trans ?_
    exact congrArg (cornerPut i _ _ _ _ _) hX
  · rw [dif_neg h2, hX]
    symm
    have n1 : ¬ hits i (k0_pay11 (pixCol (Scalar.muli (BitVec.ofNat 32 (i 2).val) 512#32) k) (elt1 (View.read (Elt F) arg4.view f4) k)) (k0_pay12 (pixRow (Scalar.muli (BitVec.ofNat 32 (i 2).val) 512#32) k) (elt1 (View.read (Elt F) arg5.view f5) k)) = 1#1 := fun H => h2 (cond2_of_inside _ _ _ _ _ _ _ _ _ _ _ _ _ _ _ _ (.inl (inside_of_cond3 H)))
    have n2 : ¬ hits i (k0_pay13 (pixCol (Scalar.muli (BitVec.ofNat 32 (i 2).val) 512#32) k) (elt1 (View.read (Elt F) arg4.view f4) k)) (k0_pay14 (pixRow (Scalar.muli (BitVec.ofNat 32 (i 2).val) 512#32) k) (elt1 (View.read (Elt F) arg5.view f5) k)) = 1#1 := fun H => h2 (cond2_of_inside _ _ _ _ _ _ _ _ _ _ _ _ _ _ _ _ (.inr (.inl (inside_of_cond3 H))))
    have n3 : ¬ hits i (k0_pay15 (pixCol (Scalar.muli (BitVec.ofNat 32 (i 2).val) 512#32) k) (elt1 (View.read (Elt F) arg4.view f4) k)) (k0_pay16 (pixRow (Scalar.muli (BitVec.ofNat 32 (i 2).val) 512#32) k) (elt1 (View.read (Elt F) arg5.view f5) k)) = 1#1 := fun H => h2 (cond2_of_inside _ _ _ _ _ _ _ _ _ _ _ _ _ _ _ _ (.inr (.inr (.inl (inside_of_cond3 H)))))
    have n4 : ¬ hits i (k0_pay17 (pixCol (Scalar.muli (BitVec.ofNat 32 (i 2).val) 512#32) k) (elt1 (View.read (Elt F) arg4.view f4) k)) (k0_pay18 (pixRow (Scalar.muli (BitVec.ofNat 32 (i 2).val) 512#32) k) (elt1 (View.read (Elt F) arg5.view f5) k)) = 1#1 := fun H => h2 (cond2_of_inside _ _ _ _ _ _ _ _ _ _ _ _ _ _ _ _ (.inr (.inr (.inr (inside_of_cond3 H)))))
    unfold tripPut pixelPut
    rw [cornerPut_neg n4, cornerPut_neg n3, cornerPut_neg n2, cornerPut_neg n1]

/-- Trip `n` as a function of the accumulator, for every number `n`. -/
def tripN (i : grid0.Coords) (x3 : S1x512x32.Idx → F .f32) (x4 x5 x6 : S1x1x8x64.Idx → F .f32) (n : ℕ) (X : Acc F) : Acc F :=
  if h : n < k0_t1_loop.trips then tripPut i x3 x4 x5 x6 ⟨n, h⟩ X else X

/-- All 512 trips of the loop, as a function of the accumulator. -/
def blockPut (i : grid0.Coords) (x3 : S1x512x32.Idx → F .f32) (x4 x5 x6 : S1x1x8x64.Idx → F .f32) (X : Acc F) : Acc F :=
  LaneScatter.iter (tripN i x3 x4 x5 x6) k0_t1_loop.trips X

/-- The whole loop: the four read buffers stay, the accumulator ends as all the trips leave it. -/
theorem loop (c : Dev nD) (i : grid0.Coords) (arg3 : Memref sig .tc .vmem S1x512x32 .f32) (harg3 : arg3.IsWhole) (arg4 : Memref sig .tc .smem S1x1x8x64 .f32) (harg4 : arg4.IsWhole) (arg5 : Memref sig .tc .smem S1x1x8x64 .f32) (harg5 : arg5.IsWhole) (arg6 : Memref sig .tc .smem S1x1x8x64 .f32) (harg6 : arg6.IsWhole) (arg7 : Memref sig .tc .vmem S1x36864x33 .f32) (harg7 : arg7.IsWhole)
    (f3 f4 f5 f6 f7) :
    iprop((pt c arg3 f3 ∗ pt c arg4 f4 ∗ pt c arg5 f5 ∗ pt c arg6 f6) ∗ pt c arg7 f7) ⊢ wp frame (wpE (defs₀ (F := F)) 𝒱₀ (c : Thread nD τ) none) Set.univ
     (Scf.Loop.for k0_t1_loop k0_t1_ok () (k0_t1_body (F := F) i arg3 harg3 arg4 harg4 arg5 harg5 arg6 harg6 arg7 harg7 (Scalar.muli (BitVec.ofNat 32 (i 2).val) 512#32) (Scalar.muli (BitVec.ofNat 32 (i 1).val) 36864#32) (Scalar.ofBits .f32 0x43C00000#32) (Scalar.ofBits .f32 0x43C00000#32)))
     (fun _ => LaneScatter.reads iprop(pt c arg3 f3 ∗ pt c arg4 f4 ∗ pt c arg5 f5 ∗ pt c arg6 f6) (fun f => pt c arg7 f) (View.read (Elt F) arg7.view)
        (blockPut i (View.read (Elt F) arg3.view f3) (View.read (Elt F) arg4.view f4) (View.read (Elt F) arg5.view f5) (View.read (Elt F) arg6.view f6) (View.read (Elt F) arg7.view f7))) := by
  refine LaneScatter.fold_run frame (wpE (defs₀ (F := F)) 𝒱₀ (c : Thread nD τ) none) Set.univ k0_t1_loop.lb k0_t1_loop.ub k0_t1_loop.st k0_t1_ok _
    iprop(pt c arg3 f3 ∗ pt c arg4 f4 ∗ pt c arg5 f5 ∗ pt c arg6 f6) (fun f => pt c arg7 f) (View.read (Elt F) arg7.view)
    (tripN i (View.read (Elt F) arg3.view f3) (View.read (Elt F) arg4.view f4) (View.read (Elt F) arg5.view f5) (View.read (Elt F) arg6.view f6)) ?_ f7
  intro k f
  have T := trip c i arg3 harg3 arg4 harg4 arg5 harg5 arg6 harg6 arg7 harg7 k f3 f4 f5 f6 f
  unfold LaneScatter.reads
  iintro ⟨⟨H3, H4, H5, H6⟩, H7⟩
  iapply (wp_wand_r frame (wpE (defs₀ (F := F)) 𝒱₀ (c : Thread nD τ) none) Set.univ)
  isplitl [H3 H4 H5 H6 H7]
  · iapply T
    isplitl [H3]; · iexact H3
    isplitl [H4]; · iexact H4
    isplitl [H5]; · iexact H5
    isplitl [H6]; · iexact H6
    iexact H7
  · iintro %_ ⟨H3, H4, H5, H6, %f', H7, %hf⟩
    isplitl [H3 H4 H5 H6]
    · isplitl [H3]; · iexact H3
      isplitl [H4]; · iexact H4
      isplitl [H5]; · iexact H5
      iexact H6
    iexists f'
    isplitl [H7]; · iexact H7
    ipureintro
    rw [hf]; unfold tripN; rw [dif_pos k.isLt]

/-- What the accumulator holds before the loop at a point: zeros at the first point of a chunk, else what it held. -/
def startAt (i : grid0.Coords) (X : Acc F) : Acc F := if (i 2).val = 0 then k0_pay1 (F := F) else X

/-- The kernel's test for a chunk's first point. -/
theorem first_iff (i : grid0.Coords) :
    Scalar.cmpi .ne (Scalar.extui (Scalar.cmpi .eq (BitVec.ofNat 32 (i 2).val) 0#32) : BitVec 32) 0#32 = 1#1 ↔ (i 2).val = 0 := by
  have h : (i 2).val < 288 := (i 2).isLt
  rw [ne_extui_one]
  show IntOp.cmpi .eq (BitVec.ofNat 32 (i 2).val) (BitVec.ofNat 32 0) = 1#1 ↔ _
  rw [WordCmp.cmpi_eq_ofNat_eq_one_iff (by omega) (by omega)]

/-- Reading the accumulator after the body's first statement: zeros at a chunk's first point, else what it held. -/
theorem read_start (i : grid0.Coords) (v : View sig .tc .vmem S1x36864x33 .f32) (f : v.ty.Contents (Elt F)) :
    View.read (Elt F) v (if Scalar.cmpi .ne (Scalar.extui (Scalar.cmpi .eq (BitVec.ofNat 32 (i 2).val) 0#32) : BitVec 32) 0#32 = 1#1 then
      v.writes (Elt F) f [⟨Rect.unit ![0, 0, 0] S1x36864x33.size inb_S1x36864x33_S1x36864x33_0_0_0, k0_pay1⟩] else f)
        = startAt i (View.read (Elt F) v f) := by
  unfold startAt
  by_cases h : (i 2).val = 0
  · rw [if_pos h, if_pos ((first_iff i).mpr h)]
    funext y
    exact View.read_writes_cons_unit_of_mem (off' := ![0, 0, 0]) v f inb_S1x36864x33_S1x36864x33_0_0_0 k0_pay1 [] y y rfl
      (fun a => by fin_cases a <;> exact (Nat.zero_add _).symm)
  · rw [if_neg h, if_neg (fun H => h ((first_iff i).mp H))]

/-- The body of the scatter at a grid point: the four inputs' buffers stay, and the accumulator ends as the loop leaves it,
begun from zeros at a chunk's first point. -/
theorem body0 (c : Dev nD) (i : grid0.Coords) (arg3 : Memref sig .tc .vmem S1x512x32 .f32) (harg3 : arg3.IsWhole) (arg4 : Memref sig .tc .smem S1x1x8x64 .f32) (harg4 : arg4.IsWhole) (arg5 : Memref sig .tc .smem S1x1x8x64 .f32) (harg5 : arg5.IsWhole) (arg6 : Memref sig .tc .smem S1x1x8x64 .f32) (harg6 : arg6.IsWhole) (arg7 : Memref sig .tc .vmem S1x36864x33 .f32) (harg7 : arg7.IsWhole)
    (f3 f4 f5 f6 f7) :
    iprop(pt c arg3 f3 ∗ pt c arg4 f4 ∗ pt c arg5 f5 ∗ pt c arg6 f6 ∗ pt c arg7 f7) ⊢ wp frame (wpE (defs₀ (F := F)) 𝒱₀ (c : Thread nD τ) none) Set.univ
     (cc0__lambda_ (F := F) i arg3 harg3 arg4 harg4 arg5 harg5 arg6 harg6 arg7 harg7)
     (fun _ => iprop(pt c arg3 f3 ∗ pt c arg4 f4 ∗ pt c arg5 f5 ∗ pt c arg6 f6 ∗ ∃ f, pt c arg7 f ∗ ⌜View.read (Elt F) arg7.view f
        = blockPut i (View.read (Elt F) arg3.view f3) (View.read (Elt F) arg4.view f4) (View.read (Elt F) arg5.view f5) (View.read (Elt F) arg6.view f6) (startAt i (View.read (Elt F) arg7.view f7))⌝)) := by
  sl_unfold [cc0__lambda_]
  iintro ⟨H3, H4, H5, H6, H7⟩
  sl_exec
  have hs : View.read (Elt F) arg7.view (if hc : body0.sl.v2 i = 1#1 then
      arg7.view.writes (Elt F) f7 [⟨Rect.unit ![0, 0, 0] S1x36864x33.size inb_S1x36864x33_S1x36864x33_0_0_0, k0_pay1⟩] else f7)
        = startAt i (View.read (Elt F) arg7.view f7) := read_start i arg7.view f7
  generalize (if hc : body0.sl.v2 i = 1#1 then
      arg7.view.writes (Elt F) f7 [⟨Rect.unit ![0, 0, 0] S1x36864x33.size inb_S1x36864x33_S1x36864x33_0_0_0, k0_pay1⟩] else f7) = g7 at hs ⊢
  rw [← hs]
  iapply (LaneScatter.bind_of_run frame (wpE (defs₀ (F := F)) 𝒱₀ (c : Thread nD τ) none) Set.univ
    (loop c i arg3 harg3 arg4 harg4 arg5 harg5 arg6 harg6 arg7 harg7 f3 f4 f5 f6 g7))
  isplitl [H3 H4 H5 H6 H7]
  · isplitl [H3 H4 H5 H6]
    · isplitl [H3]; · iexact H3
      isplitl [H4]; · iexact H4
      isplitl [H5]; · iexact H5
      iexact H6
    iexact H7
  · unfold LaneScatter.reads
    iintro ⟨⟨H3, H4, H5, H6⟩, %f, H7, %hf⟩
    sl_step
    isplitl [H3]; · iexact H3
    isplitl [H4]; · iexact H4
    isplitl [H5]; · iexact H5
    isplitl [H6]; · iexact H6
    iexists f
    isplitl [H7]; · iexact H7
    ipureintro
    exact hf

end Cert.Proof
end
-- ==== Proof.Region0.lean ====
/-
  The scatter call's proof data: what its accumulator holds after every grid point, and the body obligation.
-/
module

public import proofs.«01_k».proof.Proof.Trip
public import proofs.«01_k».proof.Proof.Gen.KernelIdeal.Regions
public import proofs.«01_k».proof.Proof.Gen.KernelIdeal.Points

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000

/-- A memref over a whole buffer owned at `X` is its buffer held at some contents that read as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜View.read (Elt F) M.view f = X⌝ ∗ pt c M f) := by
  unfold owns; rw [h.set_eq_univ]

/-- One grid point of the scatter call, over its five staging buffers: the accumulator is left at the block's pixels
    added to what it held, or to zero at a chunk's first point. -/
theorem point0 (c : Dev nD) (i : grid0.Coords) (arg3 : Memref sig .tc .vmem S1x512x32 .f32) (harg3 : arg3.IsWhole) (arg4 : Memref sig .tc .smem S1x1x8x64 .f32) (harg4 : arg4.IsWhole) (arg5 : Memref sig .tc .smem S1x1x8x64 .f32) (harg5 : arg5.IsWhole) (arg6 : Memref sig .tc .smem S1x1x8x64 .f32) (harg6 : arg6.IsWhole) (arg7 : Memref sig .tc .vmem S1x36864x33 .f32) (harg7 : arg7.IsWhole)
    (x3 x4 x5 x6 x7) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7) ⊢ wp frame (wpE (defs₀ (F := F)) 𝒱₀ (c : Thread nD τ) none) Set.univ
     (cc0__lambda_ (F := F) i arg3 harg3 arg4 harg4 arg5 harg5 arg6 harg6 arg7 harg7)
     (fun _ => iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (blockPut i x3 x4 x5 x6 (startAt i x7)) : sProp 𝕄)) := by
  rw [owns_pt c arg3 harg3, owns_pt c arg4 harg4, owns_pt c arg5 harg5, owns_pt c arg6 harg6, owns_pt c arg7 harg7, owns_pt c arg7 harg7]
  iintro ⟨⟨%f3, %h3, H3⟩, ⟨%f4, %h4, H4⟩, ⟨%f5, %h5, H5⟩, ⟨%f6, %h6, H6⟩, ⟨%f7, %h7, H7⟩⟩
  subst h3 h4 h5 h6 h7
  ihave H := (body0 c i arg3 harg3 arg4 harg4 arg5 harg5 arg6 harg6 arg7 harg7 f3 f4 f5 f6 f7) $$ [H3 H4 H5 H6 H7]
  · isplitl [H3]; · iexact H3
    isplitl [H4]; · iexact H4
    isplitl [H5]; · iexact H5
    isplitl [H6]; · iexact H6
    iexact H7
  iapply (wp_mono _ _ ?_) $$ H
  intro _
  iintro ⟨H3, H4, H5, H6, ⟨%f, H7, %hf⟩⟩
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists f; isplitr; (· ipureintro; exact hf); iexact H7

/-- The contents of the scatter call's arrays when it is entered. -/
abbrev Vals (F : FTy → Type) [FloatOps F] : Type := (c : Dev nD) → (b : Ref sig .tc) → Buf (Elt F) ((c : Thread nD τ).loc b)

variable (V : Vals F)

/-- The block of values that the pipeline stages at point `t`. -/
abbrev in0 (c : Dev nD) (t : Fin cfg0.N) : S1x512x32.Idx → Elt F .f32 := ((cfg0.win 0).blk t).view.read (Elt F) (V c main_v1)
/-- The block of horizontal flows at point `t`. -/
abbrev in1 (c : Dev nD) (t : Fin cfg0.N) : S1x1x8x64.Idx → Elt F .f32 := ((cfg0.win 1).blk t).view.read (Elt F) (V c main_v4)
/-- The block of vertical flows at point `t`. -/
abbrev in2 (c : Dev nD) (t : Fin cfg0.N) : S1x1x8x64.Idx → Elt F .f32 := ((cfg0.win 2).blk t).view.read (Elt F) (V c main_v7)
/-- The block of metrics at point `t`. -/
abbrev in3 (c : Dev nD) (t : Fin cfg0.N) : S1x1x8x64.Idx → Elt F .f32 := ((cfg0.win 3).blk t).view.read (Elt F) (V c main_v8)

/-- What point `t` makes of the accumulator's contents `X`. -/
def stepAt (c : Dev nD) (t : Fin cfg0.N) (X : Acc F) : Acc F :=
  blockPut (grid0.coords t) (in0 V c t) (in1 V c t) (in2 V c t) (in3 V c t) (startAt (grid0.coords t) X)

/-- The accumulator after point `n`, from the grid's first point. -/
def acc (c : Dev nD) : (n : ℕ) → n < cfg0.N → Acc F
  | 0, h => stepAt V c ⟨0, h⟩ k0_pay1
  | n + 1, h => stepAt V c ⟨n + 1, h⟩ (acc c n (Nat.lt_of_succ_lt h))

/-- The scatter call's proof data: the arrays as entered, the inputs' buffers as fetched, the accumulator. -/
def dat0 (c : Dev nD) : Dat τ (Elt F) Unit ℕ (UR sig nD τ) ℕ cfg0 c where
  A w := V c (Pipeline.arrRef spec0 w)
  after w t := match w with
    | ⟨0, _⟩ => in0 V c t
    | ⟨1, _⟩ => in1 V c t
    | ⟨2, _⟩ => in2 V c t
    | ⟨3, _⟩ => in3 V c t
    | ⟨4, _⟩ => acc V c t.val t.isLt
  Φ _ := Pipeline.scopedRest (Ix := Unit) (Name := ℕ) (U := UR sig nD τ) (Lvl := ℕ) (Val := Elt F) spec0 c
  q _ := fullShare
  owed _ := 0

/-- Before a point the first window holds its block of values. -/
theorem before0_0 (c : Dev nD) (t : Fin cfg0.N) (d) : (dat0 V c).before 0 t d = in0 V c t := by
  unfold Dat.before; rw [if_pos (fetch0_0 t)]; rfl
/-- Before a point the second window holds its block of horizontal flows. -/
theorem before0_1 (c : Dev nD) (t : Fin cfg0.N) (d) : (dat0 V c).before 1 t d = in1 V c t := by
  unfold Dat.before; rw [if_pos (fetch0_1 t)]; rfl
/-- Before a point the third window holds its block of vertical flows. -/
theorem before0_2 (c : Dev nD) (t : Fin cfg0.N) (d) : (dat0 V c).before 2 t d = in2 V c t := by
  unfold Dat.before; rw [if_pos (fetch0_2 t)]; rfl
/-- Before a point the fourth window holds its block of metrics. -/
theorem before0_3 (c : Dev nD) (t : Fin cfg0.N) (d) : (dat0 V c).before 3 t d = in3 V c t := by
  unfold Dat.before; rw [if_pos (fetch0_3 t)]; rfl

/-- The grid's last coordinate counts the blocks of a chunk. -/
theorem coords0_2 (t : Fin cfg0.N) : (grid0.coords t 2).val = t.val % 288 := by
  have h := Pipeline.Grid.coords_val (G := grid0) t 2 (S := 1) (B := 288) (by decide) (by decide)
  rw [h, Nat.div_one]
/-- The grid's middle coordinate counts the chunks of an image. -/
theorem coords0_1 (t : Fin cfg0.N) : (grid0.coords t 1).val = t.val / 288 % 4 :=
  Pipeline.Grid.coords_val (G := grid0) t 1 (S := 288) (B := 4) (by decide) (by decide)
/-- The grid's first coordinate counts the images. -/
theorem coords0_0 (t : Fin cfg0.N) : (grid0.coords t 0).val = t.val / 1152 % 4 :=
  Pipeline.Grid.coords_val (G := grid0) t 0 (S := 1152) (B := 4) (by decide) (by decide)

/-- At the first point of a chunk nothing the accumulator held is kept. -/
theorem startAt_first (i : grid0.Coords) (h : (i 2).val = 0) (X Y : Acc F) : startAt i X = startAt i Y := by
  unfold startAt; rw [if_pos h, if_pos h]

/-- The accumulator the body finds at point `t` becomes what the proof data says of the point. -/
theorem step_acc (c : Dev nD) (t : Fin cfg0.N) (d) : stepAt V c t ((dat0 V c).before 4 t d) = acc V c t.val t.isLt := by
  by_cases h0 : t.val % 288 = 0
  · obtain ⟨n, hn⟩ := t
    cases n with
    | zero => unfold acc stepAt; rw [startAt_first (grid0.coords ⟨0, hn⟩) (coords0_2 _)]
    | succ n => unfold acc stepAt; exact congrArg _ (startAt_first (grid0.coords ⟨n + 1, hn⟩) ((coords0_2 _).trans h0) _ _)
  · have hne : t.val ≠ 0 := fun h => h0 (by rw [h])
    have hfl : (cfg0.win 4).flush ⟨t.val - 1, Nat.lt_of_le_of_lt (Nat.sub_le _ _) t.isLt⟩ = false := by
      rw [Bool.eq_false_iff]; intro h
      have := (flush0_4 _).mp h
      dsimp only at this; omega
    rw [(dat0 V c).before_out_kept 4 rfl t hne hfl (fun _ => rfl) (fun _ _ => rfl)]
    obtain ⟨n, hn⟩ := t
    cases n with
    | zero => exact absurd rfl hne
    | succ n => rfl

/-- The library's body obligation of the scatter call: `point0` at each point's staging buffers. -/
theorem body_obligation0 (c : Dev nD) : BodyObligation (dat0 V c) (defs₀ (F := F)) 𝒱₀ () Set.univ := fun t => by
  rw [bigSep_W0, bigSep_W0]
  rw [show (dat0 V c).Φ t.castSucc = (dat0 V c).Φ t.succ from rfl,
    show (dat0 V c).owesAt () t.castSucc = (dat0 V c).owesAt () t.succ from rfl]
  iintro ⟨HΦ, HO, ⟨%d0, H0⟩, ⟨%d1, H1⟩, ⟨%d2, H2⟩, ⟨%d3, H3⟩, ⟨%d4, H4⟩⟩
  rw [before0_0, before0_1, before0_2, before0_3]
  ihave H := (point0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (in0 V c t) (in1 V c t) (in2 V c t) (in3 V c t) ((dat0 V c).before 4 t d4)) $$ [H0 H1 H2 H3 H4]
  · isplitl [H0]; · iexact H0
    isplitl [H1]; · iexact H1
    isplitl [H2]; · iexact H2
    isplitl [H3]; · iexact H3
    iexact H4
  iapply (wp_wand_r _ _ _)
  isplitl [H]; · iexact H
  iintro %_ ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iapply (show (owns (c : Thread nD τ) (win0_4.stage (cfg0.slots t 4)) fullShare (stepAt V c t ((dat0 V c).before 4 t d4)) : sProp 𝕄)
    ⊢ owns (c : Thread nD τ) (win0_4.stage (cfg0.slots t 4)) fullShare (acc V c t.val t.isLt) from by rw [step_acc])
  iexact H4

end Cert.Proof
end
-- ==== Proof.Region1.lean ====
/-
  The normalising call's proof data and body obligation.
-/
module

public import proofs.«01_k».proof.Proof.Region0

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000

/-- One grid point of the normalising call: the result block is left at the quotient of the staged block. -/
theorem point1 (c : Dev nD) (i : grid1.Coords) (arg2 : Memref sig .tc .vmem S1x9216x33 .f32) (harg2 : arg2.IsWhole) (arg3 : Memref sig .tc .vmem S1x9216x32 .f32) (harg3 : arg3.IsWhole) (x2 x3) :
    iprop(owns (c : Thread nD τ) arg2 fullShare x2 ∗ owns (c : Thread nD τ) arg3 fullShare x3) ⊢ wp frame (wpE (defs₀ (F := F)) 𝒱₀ (c : Thread nD τ) none) Set.univ
     (cc1__normalize_body (F := F) i arg2 harg2 arg3 harg3)
     (fun _ => iprop(owns (c : Thread nD τ) arg2 fullShare x2 ∗ owns (c : Thread nD τ) arg3 fullShare (k1_pay1 x2) : sProp 𝕄)) := by
  rw [owns_pt c arg2 harg2, owns_pt c arg3 harg3, owns_pt c arg3 harg3]
  sl_unfold [cc1__normalize_body]
  iintro ⟨⟨%f2, %h2, H2⟩, ⟨%f3, %h3, H3⟩⟩
  subst h2 h3
  sl_exec
  sl_step
  isplitl [H2]; · iexists f2; isplitr; (· ipureintro; rfl); iexact H2
  iexists _; isplitr; swap; (· iexact H3)
  ipureintro
  funext y
  refine (View.read_writes_cons_unit_of_mem (off' := ![0, 0, 0]) arg3.view f3 inb_S1x9216x32_S1x9216x32_0_0_0 _ [] y y rfl
    (fun a => by fin_cases a <;> exact (Nat.zero_add _).symm)).trans ?_
  refine congrArg (fun z => k1_pay1 z y) ?_
  funext x
  refine (View.readAt_apply _ _ _).trans ?_
  refine congrArg _ (funext fun a => Fin.ext ?_)
  fin_cases a <;> simp [LoadRect.idx, Rect.unit]

variable (V : Vals F)

/-- The block of the accumulator array the pipeline stages at point `t`. -/
abbrev blk1 (c : Dev nD) (t : Fin cfg1.N) : S1x9216x33.Idx → Elt F .f32 := ((cfg1.win 0).blk t).view.read (Elt F) (V c main_v9)

/-- The normalising call's proof data. -/
def dat1 (c : Dev nD) : Dat τ (Elt F) Unit ℕ (UR sig nD τ) ℕ cfg1 c where
  A w := V c (Pipeline.arrRef spec1 w)
  after w t := match w with
    | ⟨0, _⟩ => blk1 V c t
    | ⟨1, _⟩ => k1_pay1 (blk1 V c t)
  Φ _ := Pipeline.scopedRest (Ix := Unit) (Name := ℕ) (U := UR sig nD τ) (Lvl := ℕ) (Val := Elt F) spec1 c
  q _ := fullShare
  owed _ := 0

/-- Before a point the input window holds its block of the accumulator. -/
theorem before1_0 (c : Dev nD) (t : Fin cfg1.N) (d) : (dat1 V c).before 0 t d = blk1 V c t := by
  unfold Dat.before; rw [if_pos (fetch1_0 t)]; rfl

/-- The library's body obligation of the normalising call. -/
theorem body_obligation1 (c : Dev nD) : BodyObligation (dat1 V c) (defs₀ (F := F)) 𝒱₀ () Set.univ := fun t => by
  rw [bigSep_W1, bigSep_W1]
  rw [show (dat1 V c).Φ t.castSucc = (dat1 V c).Φ t.succ from rfl,
    show (dat1 V c).owesAt () t.castSucc = (dat1 V c).owesAt () t.succ from rfl]
  iintro ⟨HΦ, HO, ⟨%d0, H0⟩, ⟨%d1, H1⟩⟩
  rw [before1_0]
  ihave H := (point1 c (grid1.coords t) (win1_0.stage (cfg1.slots t 0)) (hstage1_0 ((cfg1.slots t 0).cast nbuf1_0)) (win1_1.stage (cfg1.slots t 1)) (hstage1_1 ((cfg1.slots t 1).cast nbuf1_1))
    (blk1 V c t) ((dat1 V c).before 1 t d1)) $$ [H0 H1]
  · isplitl [H0]; · iexact H0
    iexact H1
  iapply (wp_wand_r _ _ _)
  isplitl [H]; · iexact H
  iintro %_ ⟨H0, H1⟩
  isplitl [HΦ]; · iexact HΦ
  isplitl [HO]; · iexact HO
  isplitl [H0]; · iexact H0
  iexact H1

end Cert.Proof
end
-- ==== Proof.Records.lean ====
/-
  The two calls as segments of the program: each entered from the unscoped buffers at one valuation and left with
  its result array replaced.
-/
module

public import proofs.«01_k».proof.Proof.Region1
public import Idealize.ShloMosaic.Lib.Pipeline.RegionsLoop

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000

/-- The two calls' proof data, each at its own entry valuation. -/
def pdats (V W : Vals F) : (p : Fin 2) → (c : Dev nD) → Dat τ (Elt F) Unit ℕ (UR sig nD τ) ℕ (cfgs p) c
  | ⟨0, _⟩ => fun c => dat0 V c
  | ⟨1, _⟩ => fun c => dat1 W c

/-- No core owes another anything: no level is assigned. -/
abbrev L₀ : GSem nD τ sig → Finset Unit := fun _ => ∅
/-- Every level is zero. -/
abbrev lv₀ : GSem nD τ sig → Unit → ℕ := fun _ _ => 0

/-- What rides beside the buffers: the core's dues, none. -/
abbrev rest₀ (c : Dev nD) : sProp 𝕄 := iprop(∃ X, owes (c : Thread nD τ) (0 : CellTallies nD τ sig Unit) X)

/-- The accumulator array after the scatter call. -/
def out9 (V : Vals F) (c : Dev nD) : Buf (Elt F) ((c : Thread nD τ).loc main_v9) := (dat0 V c).arrAt 4 cfg0.N
/-- The quotient array after the normalising call. -/
def out10 (W : Vals F) (c : Dev nD) : Buf (Elt F) ((c : Thread nD τ).loc main_v10) := (dat1 W c).arrAt 1 cfg1.N

variable (V W : Vals F)

set_option backward.isDefEq.respectTransparency.types false in
/-- The scatter call: entered with the buffers at `V`, left with them at any `V'` that has `out9 V` at its result. -/
def reg0 (V' : Vals F) (hout : ∀ c, V' c main_v9 = out9 V c) (hne : ∀ c (b : Ref sig .tc), b ≠ main_v9 → V' c b = V c b) :
    Pipeline.RegionSeg (pcfgs (F := F)) adm (pdats V W) () defs₀ 𝒱₀ L₀ lv₀ 0 where
  win := (launch0).win.to₀
  block_pos := launch0.block_pos
  stage_whole := launch0.stage_whole
  K := PEmpty
  osem k := k.elim
  ho := Pipeline.OwnSemFacts.none _
  hbody c := (body_obligation0 V c).loose
  hwaits := Pipeline.hwaits_of_owed_zero _ _ _ _ L₀ lv₀ 0 fun _ _ => rfl
  pre c := iprop(unscopedBufs c (V c) ∗ rest₀ c)
  post c := iprop(unscopedBufs c (V' c) ∗ rest₀ c)
  X _ := BI.emp
  Y _ := BI.emp
  Z c := Pipeline.unscopedRest (Ix := Unit) (Name := ℕ) (U := UR sig nD τ) (Lvl := ℕ) spec0 c (V c)
  hentry c := by
    rw [Pipeline.ownSems0_none]
    have hsplit := Pipeline.arrays_of_unscopedBufs (p := 0) (pcfgs (F := F)) adm (pdats V W) launch0.win launch0.arr_whole c
      ((pdats V W 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%X, HO⟩; iexists X; isplitr; · ipureintro; exact fun _ _ => Or.inl trivial
      iexact HO
    isplitr; · iempintro
    iexact Hrest
  hin c := by
    rw [show (pdats V W 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats V W 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats V W) ((pdats V W 0 c).share_full fun _ => rfl) (V c) (V' c) ((pdats V W 0 c).arrAt · cfg0.N)
      (fun w => by
        fin_cases w
        · exact ((pdats V W 0 c).arrAt_in 0 rfl _).trans (hne c main_v1 (by decide)).symm
        · exact ((pdats V W 0 c).arrAt_in 1 rfl _).trans (hne c main_v4 (by decide)).symm
        · exact ((pdats V W 0 c).arrAt_in 2 rfl _).trans (hne c main_v7 (by decide)).symm
        · exact ((pdats V W 0 c).arrAt_in 3 rfl _).trans (hne c main_v8 (by decide)).symm
        · exact (hout c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%X, -, HO⟩; iexists X; iexact HO

set_option backward.isDefEq.respectTransparency.types false in
/-- The normalising call: entered with the buffers at `W`, left with them at any `W'` that has `out10 W` at its result. -/
def reg1 (W' : Vals F) (hout : ∀ c, W' c main_v10 = out10 W c) (hne : ∀ c (b : Ref sig .tc), b ≠ main_v10 → W' c b = W c b) :
    Pipeline.RegionSeg (pcfgs (F := F)) adm (pdats V W) () defs₀ 𝒱₀ L₀ lv₀ 1 where
  win := (launch1).win.to₀
  block_pos := launch1.block_pos
  stage_whole := launch1.stage_whole
  K := PEmpty
  osem k := k.elim
  ho := Pipeline.OwnSemFacts.none _
  hbody c := (body_obligation1 W c).loose
  hwaits := Pipeline.hwaits_of_owed_zero _ _ _ _ L₀ lv₀ 1 fun _ _ => rfl
  pre c := iprop(unscopedBufs c (W c) ∗ rest₀ c)
  post c := iprop(unscopedBufs c (W' c) ∗ rest₀ c)
  X _ := BI.emp
  Y _ := BI.emp
  Z c := Pipeline.unscopedRest (Ix := Unit) (Name := ℕ) (U := UR sig nD τ) (Lvl := ℕ) spec1 c (W c)
  hentry c := by
    rw [Pipeline.ownSems0_none]
    have hsplit := Pipeline.arrays_of_unscopedBufs (p := 1) (pcfgs (F := F)) adm (pdats V W) launch1.win launch1.arr_whole c
      ((pdats V W 1 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%X, HO⟩; iexists X; isplitr; · ipureintro; exact fun _ _ => Or.inl trivial
      iexact HO
    isplitr; · iempintro
    iexact Hrest
  hin c := by
    rw [show (pdats V W 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats V W 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats V W) ((pdats V W 1 c).share_full fun _ => rfl) (W c) (W' c) ((pdats V W 1 c).arrAt · cfg1.N)
      (fun w => by
        fin_cases w
        · exact ((pdats V W 1 c).arrAt_in 0 rfl _).trans (hne c main_v9 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%X, -, HO⟩; iexists X; iexact HO

end Cert.Proof
end
-- ==== Proof.Run.lean ====
/-
  The kernel's run: @main terminates from any memory, leaves its arguments, drains its semaphores, and leaves its
  result at the last valuation's contents.
-/
module

public import proofs.«01_k».proof.Proof.Records
public import Idealize.ShloMosaic.Lib.StableHlo.RunHlo

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

set_option maxHeartbeats 2000000

variable (m : (ℓ : Loc nD τ sig) → Buf (Elt F) ℓ)

/-- The buffers' contents when the scatter call is entered. -/
abbrev enter0 : Vals F := fun c b => V1 m c b

/-- What the calls leave, the scatter call's result alone. -/
def outsA : Outs (F := F) := fun _ r c =>
  Function.update (β := fun r : Ref sig .tc => Buf (Elt F) ((c : Thread nD τ).loc r)) (fun r => fun _ => Classical.arbitrary _) main_v9 (out9 (enter0 m) c) r

/-- The buffers' contents when the normalising call is entered. -/
abbrev enter1 : Vals F := fun c b => V2 m (outsA m) c b

/-- What the two calls leave. -/
def outsB : Outs (F := F) := fun J r c =>
  Function.update (β := fun r : Ref sig .tc => Buf (Elt F) ((c : Thread nD τ).loc r)) (fun r => outsA m J r c) main_v10 (out10 (enter1 m) c) r

/-- After the scatter call the accumulator holds that call's output. -/
theorem outsA_v9 (J : ℕ) (c : Dev nD) : outsA m J main_v9 c = out9 (enter0 m) c := Function.update_self _ _ _
/-- The second call leaves the scatter call's output. -/
theorem outsB_v9 (J : ℕ) (c : Dev nD) : outsB m J main_v9 c = out9 (enter0 m) c :=
  (Function.update_of_ne (by decide) _ _).trans (outsA_v9 m J c)
/-- After the second call its array holds that call's output. -/
theorem outsB_v10 (J : ℕ) (c : Dev nD) : outsB m J main_v10 c = out10 (enter1 m) c := Function.update_self _ _ _

/-- Up to the second call both records of outputs give the same contents. -/
theorem V2_outs (c : Dev nD) : V2 m (outsB m) c = V2 m (outsA m) c := by
  unfold V2; rw [outsA_v9, outsB_v9]

/-- The scatter call as the segment it is in @main. -/
def R0 := reg0 (enter0 m) (enter1 m) (enter1 m)
  (fun c => (Function.update_self _ _ _).trans (outsA_v9 m 2 c)) (fun c b h => V2_of m (outsA m) c b (by simpa using h))
/-- The normalising call as the segment it is in @main. -/
def R1 := reg1 (enter0 m) (enter1 m) (fun c b => V3 m (outsB m) c b)
  (fun c => (Function.update_self _ _ _).trans (outsB_v10 m 3 c))
  (fun c b h => (V3_of m (outsB m) c b (by simpa using h)).trans (congrFun (V2_outs m c) _))

/-- The launch's algebra element. -/
def u₀ : UR sig nD τ := initOf (Pipeline.cells cfgs cellOf_inj) (Pipeline.launchToks cfgs cellOf_inj)

/-- The result's contents after the run: the host's reshape and transpose of what the calls left. -/
def result (c : Dev nD) : Buf (Elt F) ((c : Thread nD τ).loc main_v12) := V4 m (outsB m) c main_v12

set_option backward.isDefEq.respectTransparency.types false in
/-- From any memory with zero counters @main terminates; the result is `result`, the arguments are as launched and every
    counter is zero. -/
theorem run (ρ : Dev nD → PrngReg) :
    θ_run defs (onTc (τ := τ) (main (F := F))) ⟨m, fun _ => 0, ρ⟩ (fun r => (∀ c : Dev nD,
      (r.2.mem ((c.tc : Thread nD τ).loc main_v12) = result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats (enter0 m) (enter1 m)) () cellOf_inj emb₁ defs₀ 𝒱₀ L₀ lv₀ m ρ main
    (segs m (outsB m) 𝒱₀ L₀ lv₀ (fun _ c => rest₀ c) () (pdats (enter0 m) (enter1 m)) (R0 m) (R1 m))
    (fun c Q => by
      rewrite [main_chain c, Seg.run_eq_chain,
        show (segs m (outsB m) 𝒱₀ L₀ lv₀ (fun _ c => rest₀ c) () (pdats (enter0 m) (enter1 m)) (R0 m) (R1 m) c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) (O₀ := 0) (hL := fun _ _ => rfl)
    (G := fun _ => iprop(emp)) (u₀ := u₀)
    (hu₀ := by
      unfold u₀
      iintro Hu
      imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest₀ c))
    (Tₙ := fun c => StableHlo.held (c : Thread nD τ) (Pipeline.ucRefs τ sig) (V4 m (outsB m) c))
    (hch := fun c => ⟨.rfl,
      (show iprop(StableHlo.held (c : Thread nD τ) (Pipeline.ucRefs τ sig) (V1 m c) ∗ rest₀ c) ⊢ (R0 m).pre c from by
        rw [← Pipeline.unscopedBufs_held (Ix := Unit) (Name := ℕ) (U := UR sig nD τ) (Lvl := ℕ) c (V1 m c)]; exact .rfl),
      .rfl,
      (show (R1 m).post c ⊢ iprop(StableHlo.held (c : Thread nD τ) (Pipeline.ucRefs τ sig) (V3 m (outsB m) c) ∗ rest₀ c) from by
        rw [← Pipeline.unscopedBufs_held (Ix := Unit) (Name := ℕ) (U := UR sig nD τ) (Lvl := ℕ) c (V3 m (outsB m) c)]; exact .rfl),
      .rfl⟩)
    (hinit := ?_)
    (QY := fun c s => s.mem ((c.tc : Thread nD τ).loc main_v12) = result m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · refine Pipeline.initEach L₀ lv₀ fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V4 m (outsB m) c) s') $$ [Hh HSI]
    · isplitl [Hh] <;> iassumption
    icases Hr with ⟨%h, HSI⟩
    imodintro
    isplitr
    · ipureintro
      have hh (r : Ref sig .tc) (hr : ¬ (Proc.devRef (τ := τ) .tc r).isScoped) := h (Proc.devRef .tc r) (Finset.mem_filter.mpr ⟨StableHlo.devRef_mem_tcRefs r, hr⟩)
      exact ⟨hh main_v12 (by decide), (hh main_arg0 (by decide)).trans (V4_main_arg0 m _ c), (hh main_arg1 (by decide)).trans (V4_main_arg1 m _ c),
        (hh main_arg2 (by decide)).trans (V4_main_arg2 m _ c)⟩
    · iexact HSI

/-- The frame, off the run. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run m ρ) fun r h => ⟨fun c => (h.1 c).2, h.2⟩

end Cert.Proof
end
-- ==== Proof.Same.lean ====
/-
  The kernel and its idealisation are one text, so the frame proved of the latter at any float values is the
  former's at the machine's.
-/
module

public import proofs.«01_k».proof.Proof.Run
public import proofs.«01_k».proof.Proof.Gen.Kernel

@[expose] public section

set_option maxRecDepth 65536

noncomputable section

namespace Cert.Proof

open Idealize.ShloMosaic Idealize.SL.Sem

variable {F : FTy → Type} [FloatOps F]

set_option maxHeartbeats 4000000

/-- The two programs' tables of kernel bodies are equal. -/
theorem bodies_eq : Cert.Kernel.defs₀ (F := F) = Cert.KernelIdeal.defs₀ := by
  unfold Cert.Kernel.defs₀ Cert.KernelIdeal.defs₀
  refine congrArg _ ?_
  funext l a
  match l, a with
  | 0, (t, s) => rfl
  | 1, (t, s) => rfl

/-- The two programs' tables of all bodies are equal. -/
theorem defs_eq : Cert.Kernel.defs (F := F) = Cert.KernelIdeal.defs :=
  congrArg (Pipeline.defs (Cert.KernelIdeal.pcfgs (F := F))) bodies_eq

/-- The two programs' host code is equal. -/
theorem main_eq : Cert.Kernel.main (F := F) = Cert.KernelIdeal.main := rfl

/-- The frame of the kernel as compiled. -/
theorem frame_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq, main_eq]
  exact frame (F := F) m ρ

end Cert.Proof
end
-- ==== Proof.Ref.lean ====
/-
  The reference's run, with its semaphores: it has none.
-/
module

public import proofs.«01_k».proof.Proof.Gen.ReferenceIdeal.Run
public import Idealize.ShloMosaic.Lib.StableHlo.RunHlo
public import Idealize.ShloMosaic.Lib.Quiescent
public import Idealize.ShloMosaic.PureOps.Ideal

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.SL.Sem

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run (F := Ideal) m ρ) fun r h => ⟨fun c => (h c).2, sem_eq_zero_of_no_sems (by decide) r.2⟩

end Cert.Proof.Ref
end
-- ==== Proof.Rows.lean ====
/-
  The reference's scatter over the extended reals: each entry of the accumulator is what it was plus the updates whose
  index word is the entry's row.
-/
module

public import proofs.«01_k».proof.Proof.Gen.ReferenceIdeal.Run
public import Idealize.ShloMosaic.PureOps.Ideal
public import Idealize.ShloMosaic.Lib.Routing.OpsPair
public import Idealize.ShloMosaic.Lib.Pointwise

@[expose] public section

set_option maxRecDepth 16384

noncomputable section

namespace Cert.Proof.Ref

open Cert.ReferenceIdeal Cert.ReferenceIdeal.Gen Cert.ReferenceIdeal.Value
open Idealize.ShloMosaic

/-- The scatter by rows. -/
abbrev byRows := scatter_S589824x33_S589824x1_S589824x33_1_0_0_1

/-- On the row axis an update's start is its index word. -/
theorem start_row (idx : IVec S589824x1 32) (j : Fin 589824) (k : Fin 33) : byRows.start (ix2 j k) idx 0 = (idx (ix2 j (0 : Fin 1))).toInt := by
  unfold ScatterDims.start
  rw [dif_pos (show (0 : Fin 2) ∈ byRows.scatterDimsToOperandDims from List.mem_singleton.2 rfl)]
  refine congrArg (fun z => (idx z).toInt) (funext fun a => Fin.ext ?_)
  fin_cases a <;> rfl

/-- On the value axis an update starts at zero. -/
theorem start_val (idx : IVec S589824x1 32) (j : Fin 589824) (k : Fin 33) : byRows.start (ix2 j k) idx 1 = 0 := by
  unfold ScatterDims.start
  exact dif_neg (show (1 : Fin 2) ∉ byRows.scatterDimsToOperandDims from fun h => absurd (List.mem_singleton.1 h) (by decide))

/-- An update's window is one row high. -/
theorem window_row (j : Fin 589824) (k : Fin 33) : byRows.window (ix2 j k) 0 = 0 := by
  unfold ScatterDims.window
  exact dif_neg fun h => (of_decide_eq_true (List.mem_filter.1 h).2) (List.mem_singleton.2 rfl)

/-- An update's value lands at its own place in the row. -/
theorem window_val (j : Fin 589824) (k : Fin 33) : byRows.window (ix2 j k) 1 = k.val := by
  unfold ScatterDims.window
  rw [dif_pos (show (1 : Fin 2) ∈ byRows.sKept from by decide)]
  rfl

/-- Where an update lands: at its index word's row, at its own value. -/
theorem lands_at (idx : IVec S589824x1 32) (j : Fin 589824) (k : Fin 33) (r : Fin 589824) (ch : Fin 33) :
    byRows.resultIdx? (ix2 j k) idx = some (ix2 r ch) ↔ (idx (ix2 j (0 : Fin 1))).toInt = (r.val : ℤ) ∧ k = ch := by
  rw [Routing.resultIdx?_eq_some]
  constructor
  · intro h
    have h0 := h 0
    have h1 := h 1
    rw [start_row, window_row] at h0
    rw [start_val, window_val] at h1
    change _ = ((r.val : ℕ) : ℤ) at h0
    change _ = ((ch.val : ℕ) : ℤ) at h1
    exact ⟨by omega, Fin.ext (by omega)⟩
  · rintro ⟨h, rfl⟩ a
    fin_cases a
    · show byRows.start (ix2 j k) idx 0 + (byRows.window (ix2 j k) 0 : ℤ) = (r.val : ℤ)
      rw [start_row, window_row, h]; simp
    · show byRows.start (ix2 j k) idx 1 + (byRows.window (ix2 j k) 1 : ℤ) = (k.val : ℤ)
      rw [start_val, window_val]; simp

/-- The scatter read at an entry. -/
theorem scatter_apply (x : FVec Ideal S589824x33 .f32) (idx : IVec S589824x1 32) (upd : FVec Ideal S589824x33 .f32) (r : Fin 589824) (ch : Fin 33) :
    Host.scatterAdd (F := Ideal) byRows x idx upd (ix2 r ch)
      = (x (ix2 r ch) : EReal) + ∑ j : Fin 589824, if (idx (ix2 j (0 : Fin 1))).toInt = (r.val : ℤ) then (upd (ix2 j ch) : EReal) else 0 := by
  refine (show Host.scatterAdd (F := Ideal) byRows x idx upd (ix2 r ch) = Ideal.hostScatterAdd byRows x idx upd (ix2 r ch) from rfl).trans ?_
  unfold Ideal.hostScatterAdd
  refine congrArg (fun v : EReal => (x (ix2 r ch) : EReal) + v) ?_
  rw [Finset.sum_filter]
  refine (sum_idx2 _).trans (Finset.sum_congr rfl fun j _ => ?_)
  simp only [lands_at]
  by_cases h : (idx (ix2 j (0 : Fin 1))).toInt = (r.val : ℤ)
  · simp [h]
  · simp [h]

end Cert.Proof.Ref
end
-- ==== Proof.Spec.lean ====
/-
  What softmax splatting computes, over the extended reals and without any program: where a pixel flows, which of the
  four corners of its landing place are inside the image, what each corner is given.
-/
module

public import proofs.«01_k».proof.Proof.Corner
public import Idealize.ShloMosaic.PureOps.Ideal.Laws
public import Idealize.ShloMosaic.Lib.IdealHost

@[expose] public section

set_option maxRecDepth 16384

noncomputable section

namespace Cert.Proof

open Idealize.ShloMosaic Idealize.ShloMosaic.WordCmp Cert.KernelIdeal Cert.KernelIdeal.Gen

/-- The floats' word for 384 denotes 384. -/
theorem bits384 : Ideal.ofBits .f32 0x43C00000#32 = ((384 : ℝ) : EReal) := by
  simp [Ideal.ofBits, Ideal.ieee, -EReal.coe_mul]; norm_num

/-- The integer part, the infinities fixed. -/
abbrev floorE (x : EReal) : EReal := Ideal.liftRound Int.floor x

/-- A corner at `px`, `py` is inside the image and is the image's position `R`, counted along the rows. -/
def lands (px py : EReal) (R : ℕ) : Prop :=
  ((0 ≤ px ∧ px < ((384 : ℝ) : EReal)) ∧ 0 ≤ py ∧ py < ((384 : ℝ) : EReal)) ∧ (rowW (Ideal.fptosi 32 px) (Ideal.fptosi 32 py)).toNat = R

open Classical in
/-- What position `R` is given through the corner at `px`, `py` by a pixel of value `v` that flows to `X`, `Y`. -/
def share (X Y px py v : EReal) (R : ℕ) : EReal :=
  if lands px py R then weight (F := Ideal) X Y px py * v else 0

/-- What position `R` is given by a pixel of value `v` that flows to `X`, `Y`, through its four corners. -/
def splat (X Y v : EReal) (R : ℕ) : EReal :=
  share X Y (floorE X) (floorE Y) v R + share X Y (floorE X) (floorE Y + 1) v R
    + share X Y (floorE X + 1) (floorE Y) v R + share X Y (floorE X + 1) (floorE Y + 1) v R

end Cert.Proof
end
-- ==== Proof.Agree.lean ====
/-
  One corner over the extended reals: what the reference's scatter adds for it is the corner's share.
-/
module

public import proofs.«01_k».proof.Proof.Spec
public import Idealize.ShloMosaic.Lib.WordArith
public import Idealize.ShloMosaic.Lib.Routing.OpsPair

@[expose] public section

set_option maxRecDepth 16384

noncomputable section

namespace Cert.Proof

open Idealize.ShloMosaic Idealize.ShloMosaic.WordCmp Cert.KernelIdeal Cert.KernelIdeal.Gen

/-- The floats' word for infinity denotes it. -/
theorem bitsInf : Ideal.ofBits .f32 0x7F800000#32 = (⊤ : EReal) := by
  simp [Ideal.ofBits, Ideal.ieee]

/-- A coordinate inside the image. -/
abbrev inside384 (px : EReal) : Prop := 0 ≤ px ∧ px < ((384 : ℝ) : EReal)

/-- A coordinate inside the image is a real. -/
theorem real_of_inside {px : EReal} (h : inside384 px) : ∃ r : ℝ, px = (r : EReal) ∧ 0 ≤ r ∧ r < 384 := by
  have h1 : px ≠ ⊥ := fun e => by rw [e] at h; exact absurd h.1 (by simp)
  have h2 : px ≠ ⊤ := fun e => by rw [e] at h; exact absurd h.2 (by simp)
  lift px to ℝ using ⟨h2, h1⟩
  exact ⟨px, rfl, by exact_mod_cast h.1, by exact_mod_cast h.2⟩

/-- A coordinate inside the image converts to the word of a number below 384. -/
theorem fptosi_inside {px : EReal} (h : inside384 px) : ∃ t < 384, Ideal.fptosi 32 px = BitVec.ofNat 32 t := by
  obtain ⟨r, rfl, h0, h1⟩ := real_of_inside h
  have f0 : 0 ≤ ⌊r⌋ := Int.floor_nonneg.mpr h0
  have f1 : ⌊r⌋ < 384 := Int.floor_lt.mpr (by exact_mod_cast h1)
  refine ⟨⌊r⌋.toNat, by omega, ?_⟩
  unfold Ideal.fptosi
  rw [Ideal.toIntClamped_coe, if_pos h0, min_eq_right (by norm_num; omega), max_eq_right (by norm_num; omega)]
  rw [← BitVec.ofInt_natCast, Int.toNat_of_nonneg f0]

/-- The reference's finite test of a flow. -/
abbrev finiteBit (X : EReal) : BitVec 1 := Ideal.cmp .olt (max X (-X)) (Ideal.ofBits .f32 0x7F800000#32)

/-- A real passes the finite test. -/
theorem finiteBit_real (r : ℝ) : finiteBit (r : EReal) = 1#1 := by
  unfold finiteBit Ideal.cmp
  rw [bitsInf, ofBool_decide_eq_one_iff]
  exact max_lt (EReal.coe_lt_top r) (by rw [← EReal.coe_neg]; exact EReal.coe_lt_top _)

/-- The kernel's weight on one axis. -/
abbrev tri (X px : EReal) : EReal := 1 - max (X - px) (-(X - px))

/-- The kernel's weight is the product of the axes'. -/
theorem weight_eq (X Y px py : EReal) : weight (F := Ideal) X Y px py = tri X px * tri Y py := by
  unfold weight tri
  rw [show (Scalar.ofBits (F := Ideal) .f32 0x3F800000#32) = (1 : EReal) from Ideal.ofBits_one_f32]
  rfl

/-- What is asked of a corner's coordinate on one axis: inside the image, the flow is finite and the weight is `w`. -/
def AxisOk (X px w : EReal) : Prop := inside384 px → finiteBit X = 1#1 ∧ tri X px = w

/-- A flow whose integer part is inside the image is a real. -/
theorem real_of_floor {X : EReal} (h : floorE X ≠ ⊥ ∧ floorE X ≠ ⊤) : ∃ r : ℝ, X = (r : EReal) := by
  refine ⟨X.toReal, (EReal.coe_toReal (fun e => h.2 ?_) (fun e => h.1 ?_)).symm⟩
  · rw [e]; exact Ideal.liftRound_top _
  · rw [e]; exact Ideal.liftRound_bot _

/-- The axis at the integer part. -/
theorem axis_floor (X : EReal) : AxisOk X (floorE X) ((floorE X + 1) - X) := by
  intro h
  obtain ⟨f, hf, -, -⟩ := real_of_inside h
  obtain ⟨r, rfl⟩ := real_of_floor (X := X) ⟨by rw [hf]; exact EReal.coe_ne_bot f, by rw [hf]; exact EReal.coe_ne_top f⟩
  refine ⟨finiteBit_real r, ?_⟩
  have e : floorE (r : EReal) = (((⌊r⌋ : ℤ) : ℝ) : EReal) := Ideal.liftRound_coe _ _
  have h0 : 0 ≤ r - ⌊r⌋ := by have := Int.floor_le r; linarith
  unfold tri
  rw [e, ← EReal.coe_sub, max_eq_left (by rw [← EReal.coe_neg]; exact_mod_cast (by linarith : -(r - ⌊r⌋) ≤ r - ⌊r⌋)), ← EReal.coe_one, ← EReal.coe_sub, ← EReal.coe_add, ← EReal.coe_sub]
  congr 1; ring

/-- The axis one past the integer part. -/
theorem axis_next (X : EReal) : AxisOk X (floorE X + 1) (X - floorE X) := by
  intro h
  obtain ⟨f, hf, -, -⟩ := real_of_inside h
  obtain ⟨r, rfl⟩ := real_of_floor (X := X) ⟨fun e => by rw [e, EReal.bot_add] at hf; exact EReal.coe_ne_bot f hf.symm,
    fun e => by rw [e, EReal.top_add_of_ne_bot (by decide)] at hf; exact EReal.coe_ne_top f hf.symm⟩
  refine ⟨finiteBit_real r, ?_⟩
  have e : floorE (r : EReal) = (((⌊r⌋ : ℤ) : ℝ) : EReal) := Ideal.liftRound_coe _ _
  have h0 : r - (⌊r⌋ + 1) ≤ 0 := by have := Int.lt_floor_add_one r; linarith
  unfold tri
  rw [e, ← EReal.coe_one, ← EReal.coe_add, ← EReal.coe_sub, max_eq_right (by rw [← EReal.coe_neg]; exact_mod_cast (by linarith : r - (⌊r⌋ + 1) ≤ -(r - (⌊r⌋ + 1)))), ← EReal.coe_neg, ← EReal.coe_sub, ← EReal.coe_sub]
  congr 1; ring

/-- A corner's bit in the reference: both flows finite, the corner inside the image. -/
abbrev validBit (fin : BitVec 1) (px py : EReal) : BitVec 1 :=
  IntOp.andi (IntOp.andi (IntOp.andi (IntOp.andi fin (Ideal.cmp .oge px (Ideal.ofBits .f32 0x00000000#32))) (Ideal.cmp .olt px (Ideal.ofBits .f32 0x43C00000#32)))
    (Ideal.cmp .oge py (Ideal.ofBits .f32 0x00000000#32))) (Ideal.cmp .olt py (Ideal.ofBits .f32 0x43C00000#32))

/-- A coordinate's word, clipped to the image. -/
abbrev clipW (px : EReal) : BitVec 32 := IntOp.minsi 383#32 (IntOp.maxsi 0#32 (Ideal.fptosi 32 px))

/-- A corner's row among the rows of all images. -/
abbrev rowWord (b : ℕ) (px py : EReal) : BitVec 32 :=
  IntOp.addi (IntOp.addi (IntOp.muli (BitVec.ofNat 32 b) 147456#32) (IntOp.muli (clipW py) 384#32)) (clipW px)

/-- A row word as the scatter reads it: a negative one counted from the end. -/
abbrev wrapped (x : BitVec 32) : BitVec 32 := Scalar.select (IntOp.cmpi .slt x 0#32) (IntOp.addi x 589824#32) x

/-- Two bits are both set when their conjunction is. -/
theorem andi_both (a b : BitVec 1) : IntOp.andi a b = 1#1 ↔ a = 1#1 ∧ b = 1#1 := by
  revert a b; decide

/-- The corner's bit, as a proposition. -/
theorem validBit_iff (fin : BitVec 1) (px py : EReal) : validBit fin px py = 1#1 ↔ fin = 1#1 ∧ inside384 px ∧ inside384 py := by
  unfold validBit inside384
  simp only [andi_both, Ideal.cmp, ofBool_decide_eq_one_iff, Ideal.ofBits_zero_f32, bits384]
  tauto

/-- Clipping leaves the word of a coordinate inside the image. -/
theorem clipW_small (t : ℕ) (h : t < 384) : IntOp.minsi 383#32 (IntOp.maxsi 0#32 (BitVec.ofNat 32 t)) = BitVec.ofNat 32 t := by
  have : ∀ t : Fin 384, IntOp.minsi 383#32 (IntOp.maxsi 0#32 (BitVec.ofNat 32 t.val)) = BitVec.ofNat 32 t.val := by decide +kernel
  exact this ⟨t, h⟩

/-- The reference's contribution of one corner of a pixel of image `b` to the entry of value `v` at position `R` of image `n`: the corner's share when the
    images are the same, else nothing. -/
theorem corner_eq (X Y px py wx wy v : EReal) (hx : AxisOk X px wx) (hy : AxisOk Y py wy) (b n R : ℕ) (hb : b < 4) (hn : n < 4) (hR : R < 147456) :
    (if (wrapped (rowWord b px py)).toInt = ((n * 147456 + R : ℕ) : ℤ) then v * ((wx * wy) * (((validBit (IntOp.andi (finiteBit X) (finiteBit Y)) px py).toNat : ℝ) : EReal)) else 0)
      = if b = n then share X Y px py v R else 0 := by
  by_cases hi : inside384 px ∧ inside384 py
  · obtain ⟨fx, ex⟩ := hx hi.1
    obtain ⟨fy, ey⟩ := hy hi.2
    obtain ⟨tx, htx, wtx⟩ := fptosi_inside hi.1
    obtain ⟨ty, hty, wty⟩ := fptosi_inside hi.2
    have hv : validBit (IntOp.andi (finiteBit X) (finiteBit Y)) px py = 1#1 := (validBit_iff _ _ _).mpr ⟨(andi_both _ _).mpr ⟨fx, fy⟩, hi⟩
    have hw : rowWord b px py = BitVec.ofNat 32 (b * 147456 + ty * 384 + tx) := by
      unfold rowWord clipW
      rw [wtx, wty, clipW_small tx htx, clipW_small ty hty]
      show BitVec.ofNat 32 b * BitVec.ofNat 32 147456 + BitVec.ofNat 32 ty * BitVec.ofNat 32 384 + BitVec.ofNat 32 tx = _
      simp only [← BitVec.ofNat_mul, ← BitVec.ofNat_add]
    have hr : (rowW (Ideal.fptosi 32 px) (Ideal.fptosi 32 py)).toNat = ty * 384 + tx := by
      rw [wtx, wty]
      show (BitVec.ofNat 32 ty * BitVec.ofNat 32 384 + BitVec.ofNat 32 tx).toNat = _
      rw [← BitVec.ofNat_mul, ← BitVec.ofNat_add, BitVec.toNat_ofNat]; omega
    have hl : lands px py R ↔ ty * 384 + tx = R := by unfold lands; rw [hr]; exact ⟨fun h => h.2, fun h => ⟨hi, h⟩⟩
    have hu : (wrapped (rowWord b px py)).toInt = ((b * 147456 + ty * 384 + tx : ℕ) : ℤ) := by
      unfold wrapped
      rw [hw, Routing.wrap_of_lt _ _ (by rw [BitVec.toNat_ofNat, Nat.mod_eq_of_lt (by omega)]; show _ < 2147483648; omega), toInt_ofNat_of_lt (by omega)]
    rw [hu, hv, show ((1#1 : BitVec 1).toNat : ℝ) = 1 from by norm_num, EReal.coe_one, mul_one]
    unfold share
    rw [weight_eq, ex, ey, mul_comm v]
    by_cases hbn : b = n
    · subst hbn
      rw [if_pos rfl]
      by_cases he : ty * 384 + tx = R
      · rw [if_pos (hl.mpr he), if_pos (by push_cast; omega)]
      · rw [if_neg (fun h => he (hl.mp h)), if_neg (by push_cast; omega)]
    · rw [if_neg hbn, if_neg (by push_cast; omega)]
  · have hv : validBit (IntOp.andi (finiteBit X) (finiteBit Y)) px py = 0#1 := by
      have : ∀ a : BitVec 1, a ≠ 1#1 → a = 0#1 := by decide
      exact this _ (fun h => hi ((validBit_iff _ _ _).mp h).2)
    have hl : ¬ lands px py R := fun h => hi h.1
    unfold share
    rw [hv, if_neg hl, show ((0#1 : BitVec 1).toNat : ℝ) = 0 from by norm_num, EReal.coe_zero, mul_zero, mul_zero, ite_self, ite_self]

end Cert.Proof
end
-- ==== Proof.Add.lean ====
/-
  The scatter's body over the extended reals: one grid point adds, to every entry of the accumulator, what its 512 pixels
  give that entry.
-/
module

public import proofs.«01_k».proof.Proof.Spec
public import proofs.«01_k».proof.Proof.Trip
public import Idealize.ShloMosaic.Lib.Routing.BitFacts

@[expose] public section

set_option maxRecDepth 16384

noncomputable section

namespace Cert.Proof

open Idealize.ShloMosaic Idealize.ShloMosaic.WordCmp Cert.KernelIdeal Cert.KernelIdeal.Gen

/-- The position of the accumulator's row `r` in the image, for the point's chunk. -/
abbrev rowAt (i : grid0.Coords) (r : Fin 36864) : ℕ := (i 1).val * 36864 + r.val

/-- Over the extended reals a corner's bit says that the corner is inside the image and its position in the chunk. -/
theorem hits_iff (i : grid0.Coords) (px py : EReal) (r : Fin 36864) :
    (hits (F := Ideal) i px py = 1#1 ∧ r.val = (rowW (Ideal.fptosi 32 px) (Ideal.fptosi 32 py)).toNat - (i 1).val * 36864)
      ↔ lands px py (rowAt i r) := by
  have hr := r.isLt
  unfold hits lands
  rw [cond3_iff]
  simp only [Ideal.scalar_cmpf_def, Ideal.scalar_fptosi_def, Ideal.cmp, ofBool_decide_eq_one_iff,
    show (Scalar.ofBits (F := Ideal) .f32 0x00000000#32) = (0 : EReal) from Ideal.ofBits_zero_f32,
    show (Scalar.ofBits (F := Ideal) .f32 0x43C00000#32) = ((384 : ℝ) : EReal) from bits384]
  constructor
  · rintro ⟨⟨h, h1, h2⟩, h3⟩
    exact ⟨h, by unfold rowAt; omega⟩
  · rintro ⟨h, h1⟩
    unfold rowAt at h1
    exact ⟨⟨h, by omega, by omega⟩, by omega⟩

/-- One corner's update, read at an entry: what the entry held plus the corner's share. -/
theorem cornerPut_apply (i : grid0.Coords) (fx fy px py : EReal) (row : FVec Ideal S1x33 .f32) (X : Acc Ideal) (y : S1x36864x33.Idx) :
    cornerPut (F := Ideal) i fx fy px py row X y = X y + share fx fy px py (row (ix2 (0 : Fin 1) (y 2))) (rowAt i (y 1)) := by
  have H := hits_iff i px py (y 1)
  unfold cornerPut share
  by_cases h : lands px py (rowAt i (y 1))
  · rw [if_pos h]; exact if_pos (H.mpr h)
  · rw [if_neg h, add_zero]; exact if_neg (fun h' => h (H.mp h'))

/-- The number of the loop's pixel `k` at a grid point. -/
abbrev pixAt (i : grid0.Coords) (k : Fin k0_t1_loop.trips) : ℕ := (i 2).val * 512 + k.val

/-- The loop runs over the 512 pixels of a block. -/
theorem trips_eq : k0_t1_loop.trips = 512 := by decide +kernel

/-- A pixel's number is below the image's size. -/
theorem pixAt_lt (i : grid0.Coords) (k : Fin k0_t1_loop.trips) : pixAt i k < 147456 := by
  have h1 : (i 2).val < 288 := (i 2).isLt
  have h2 : k.val < 512 := lt_of_lt_of_eq k.isLt trips_eq
  unfold pixAt; omega

/-- The word of a pixel's number. -/
theorem pixW_eq (i : grid0.Coords) (k : Fin k0_t1_loop.trips) :
    pixW (Scalar.muli (BitVec.ofNat 32 (i 2).val) 512#32) k = BitVec.ofNat 32 (pixAt i k) := by
  show BitVec.ofNat 32 (i 2).val * BitVec.ofNat 32 512 + (BitVec.ofNat 32 0 + BitVec.ofNat 32 k.val * BitVec.ofNat 32 1) = _
  simp only [← BitVec.ofNat_mul, ← BitVec.ofNat_add, Nat.zero_add, Nat.mul_one]

/-- A pixel's image row is its number divided by 384. -/
theorem pixRow_eq (i : grid0.Coords) (k : Fin k0_t1_loop.trips) :
    pixRow (Scalar.muli (BitVec.ofNat 32 (i 2).val) 512#32) k = BitVec.ofNat 32 (pixAt i k / 384) := by
  have hP := pixAt_lt i k
  unfold pixRow
  rw [pixW_eq]
  generalize pixAt i k = P at hP ⊢
  have hd : Scalar.divsi (BitVec.ofNat 32 P) 384#32 = BitVec.ofNat 32 (P / 384) := by
    show (if _ then _ else _) = _
    rw [if_neg (by rintro (h | ⟨-, h⟩) <;> exact absurd h (by decide))]
    exact Routing.sdiv_ofNat32 (b := 384) (by omega) (by omega)
  have hs : Scalar.cmpi .slt (BitVec.ofNat 32 P) 0#32 = 0#1 := by
    show IntOp.cmpi .slt (BitVec.ofNat 32 P) (BitVec.ofNat 32 0) = _
    rw [cmpi_slt_ofNat_eq_zero_iff (by omega) (by omega)]; omega
  rw [hd, hs]
  by_cases h0 : P = 0
  · subst h0; decide
  · have hg : Scalar.cmpi .sgt (BitVec.ofNat 32 P) 0#32 = 1#1 := by
      show IntOp.cmpi .sgt (BitVec.ofNat 32 P) (BitVec.ofNat 32 0) = _
      rw [cmpi_sgt_ofNat_eq_one_iff (by omega) (by omega)]; omega
    rw [hg]
    have hz : ∀ b : BitVec 1, Scalar.andi (Scalar.cmpi .ne
        (Scalar.subi (Scalar.extui 1#1) (Scalar.extui 0#1) : BitVec 32)
        (Scalar.subi (Scalar.extui (Scalar.cmpi .sgt 384#32 0#32)) (Scalar.extui (Scalar.cmpi .slt 384#32 0#32)))) b = 0#1 := by decide
    rw [hz, select_zero]

/-- A pixel's image column is what is left of its number. -/
theorem pixCol_eq (i : grid0.Coords) (k : Fin k0_t1_loop.trips) :
    pixCol (Scalar.muli (BitVec.ofNat 32 (i 2).val) 512#32) k = BitVec.ofNat 32 (pixAt i k % 384) := by
  unfold pixCol
  rw [pixRow_eq, pixW_eq]
  show BitVec.ofNat 32 (pixAt i k) - BitVec.ofNat 32 (pixAt i k / 384) * BitVec.ofNat 32 384 = _
  rw [← BitVec.ofNat_mul, Routing.ofNat32_sub (Nat.div_mul_le_self _ _)]
  congr 1; omega

/-- A small number's word, converted to a float, is the number. -/
theorem sitofp_small (n : ℕ) (h : n < 147456) : Scalar.sitofp (F := Ideal) .f32 (BitVec.ofNat 32 n) = ((n : ℝ) : EReal) := by
  rw [Ideal.scalar_sitofp_def, toInt_ofNat_of_lt (by omega)]; norm_cast

/-- Where pixel `k` flows, horizontally. -/
theorem pay7_eq (i : grid0.Coords) (k : Fin k0_t1_loop.trips) (a : EReal) :
    k0_pay7 (F := Ideal) (pixCol (Scalar.muli (BitVec.ofNat 32 (i 2).val) 512#32) k) a = a + (((pixAt i k % 384 : ℕ) : ℝ) : EReal) := by
  have := pixAt_lt i k
  unfold k0_pay7
  rw [pixCol_eq, sitofp_small _ (by omega)]; rfl

/-- Where pixel `k` flows, vertically. -/
theorem pay8_eq (i : grid0.Coords) (k : Fin k0_t1_loop.trips) (b : EReal) :
    k0_pay8 (F := Ideal) (pixRow (Scalar.muli (BitVec.ofNat 32 (i 2).val) 512#32) k) b = b + (((pixAt i k / 384 : ℕ) : ℝ) : EReal) := by
  have := pixAt_lt i k
  unfold k0_pay8
  rw [pixRow_eq, sitofp_small _ (by omega)]; rfl

/-- The integer part plus the constant zero. -/
theorem floor_zero (x : EReal) : Scalar.addf (F := Ideal) (φ := .f32) (Scalar.floor x) (Scalar.ofBits .f32 0x00000000#32) = floorE x := by
  rw [Ideal.scalar_addf_def, show (Scalar.ofBits (F := Ideal) .f32 0x00000000#32) = (0 : EReal) from Ideal.ofBits_zero_f32, add_zero]; rfl
/-- The integer part plus the constant one. -/
theorem floor_one (x : EReal) : Scalar.addf (F := Ideal) (φ := .f32) (Scalar.floor x) (Scalar.ofBits .f32 0x3F800000#32) = floorE x + 1 := by
  rw [Ideal.scalar_addf_def, show (Scalar.ofBits (F := Ideal) .f32 0x3F800000#32) = (1 : EReal) from Ideal.ofBits_one_f32]; rfl

/-- One pixel's update, read at an entry: what the entry held plus what the pixel gives it. -/
theorem tripPut_apply (i : grid0.Coords) (x3 : S1x512x32.Idx → EReal) (x4 x5 x6 : S1x1x8x64.Idx → EReal) (k : Fin k0_t1_loop.trips)
    (X : Acc Ideal) (y : S1x36864x33.Idx) :
    tripPut (F := Ideal) i x3 x4 x5 x6 k X y = X y
      + splat (elt1 (F := Ideal) x4 k + (((pixAt i k % 384 : ℕ) : ℝ) : EReal)) (elt1 (F := Ideal) x5 k + (((pixAt i k / 384 : ℕ) : ℝ) : EReal))
          (rowOf (F := Ideal) x3 x6 k (ix2 (0 : Fin 1) (y 2))) (rowAt i (y 1)) := by
  unfold tripPut pixelPut
  rw [cornerPut_apply, cornerPut_apply, cornerPut_apply, cornerPut_apply]
  have e0 : ∀ w a, k0_pay11 (F := Ideal) w a = floorE (k0_pay7 (F := Ideal) w a) := fun w a => floor_zero _
  have e1 : ∀ w a, k0_pay12 (F := Ideal) w a = floorE (k0_pay8 (F := Ideal) w a) := fun w a => floor_zero _
  have e2 : ∀ w a, k0_pay13 (F := Ideal) w a = floorE (k0_pay7 (F := Ideal) w a) := fun w a => floor_zero _
  have e3 : ∀ w a, k0_pay14 (F := Ideal) w a = floorE (k0_pay8 (F := Ideal) w a) + 1 := fun w a => floor_one _
  have e4 : ∀ w a, k0_pay15 (F := Ideal) w a = floorE (k0_pay7 (F := Ideal) w a) + 1 := fun w a => floor_one _
  have e5 : ∀ w a, k0_pay16 (F := Ideal) w a = floorE (k0_pay8 (F := Ideal) w a) := fun w a => floor_zero _
  have e6 : ∀ w a, k0_pay17 (F := Ideal) w a = floorE (k0_pay7 (F := Ideal) w a) + 1 := fun w a => floor_one _
  have e7 : ∀ w a, k0_pay18 (F := Ideal) w a = floorE (k0_pay8 (F := Ideal) w a) + 1 := fun w a => floor_one _
  rw [e0, e1, e2, e3, e4, e5, e6, e7, pay7_eq, pay8_eq]
  unfold splat
  simp only [add_assoc]

/-- The first entry's index in a block of 8 rows of 64, for the loop's pixel `k`. -/
theorem off1_eq : ∀ k : Fin k0_t1_loop.trips, k0_off1 k = ![0, 0, k.val / 64, k.val % 64] := by decide +kernel
/-- The same for the block of metrics. -/
theorem off2_eq : ∀ k : Fin k0_t1_loop.trips, k0_off2 k = ![0, 0, k.val / 64, k.val % 64] := by decide +kernel

/-- The index of pixel `k` in a block of 8 rows of 64. -/
abbrev at64 (k : Fin 512) : S1x1x8x64.Idx := ix4 (0 : Fin 1) (0 : Fin 1) (⟨k.val / 64, by omega⟩ : Fin 8) (⟨k.val % 64, by omega⟩ : Fin 64)

/-- The flow that the loop reads for pixel `k`. -/
theorem elt1_eq (x : S1x1x8x64.Idx → EReal) (k : Fin k0_t1_loop.trips) : elt1 (F := Ideal) x k = x (at64 (k.cast trips_eq)) := by
  unfold elt1
  congr 1; funext a; refine Fin.ext ?_
  fin_cases a
  · exact congrFun (off1_eq k) 0
  · exact congrFun (off1_eq k) 1
  · exact congrFun (off1_eq k) 2
  · exact congrFun (off1_eq k) 3

/-- The metric that the loop reads for pixel `k`. -/
theorem elt2_eq (x : S1x1x8x64.Idx → EReal) (k : Fin k0_t1_loop.trips) : elt2 (F := Ideal) x k = x (at64 (k.cast trips_eq)) := by
  unfold elt2
  congr 1; funext a; refine Fin.ext ?_
  fin_cases a
  · exact congrFun (off2_eq k) 0
  · exact congrFun (off2_eq k) 1
  · exact congrFun (off2_eq k) 2
  · exact congrFun (off2_eq k) 3

/-- Value `ch` of a pixel of channels `u` and metric `z`: a channel times the exponential, or the exponential. -/
def valueOf (u : Fin 32 → EReal) (z : EReal) (ch : Fin 33) : EReal :=
  if h : ch.val < 32 then u ⟨ch.val, h⟩ * Ideal.exp z else Ideal.exp z

/-- The pixel's row of values, read at a channel. -/
theorem rowOf_apply (x3 : S1x512x32.Idx → EReal) (x6 : S1x1x8x64.Idx → EReal) (k : Fin k0_t1_loop.trips) (ch : Fin 33) :
    rowOf (F := Ideal) x3 x6 k (ix2 (0 : Fin 1) ch)
      = valueOf (fun c => x3 (ix3 (0 : Fin 1) (k.cast trips_eq) c)) (x6 (at64 (k.cast trips_eq))) ch := by
  unfold rowOf
  rw [elt2_eq]
  generalize x6 (at64 (k.cast trips_eq)) = z
  unfold k0_pay2 valueOf
  by_cases h : ch.val < 32
  · rw [dif_pos h]
    pointwise
    rw [dif_pos h]
    have e := k0_off3_eq k
    refine congrArg (· * Ideal.exp z) (congrArg x3 ?_)
    funext a; refine Fin.ext ?_
    fin_cases a
    · exact congrFun e 0
    · exact congrFun e 1
    · exact (congrArg (· + ch.val) (congrFun e 2)).trans (Nat.zero_add _)
  · rw [dif_neg h]
    pointwise
    rw [dif_neg h]; rfl

/-- A fold that adds one term per trip adds the sum of the terms. -/
theorem iter_add {ι : Type} (put : ℕ → (ι → EReal) → ι → EReal) (g : ℕ → ι → EReal) (h : ∀ n X y, put n X y = X y + g n y) (N : ℕ) (X : ι → EReal) (y : ι) :
    LaneScatter.iter put N X y = X y + ∑ n ∈ Finset.range N, g n y := by
  induction N with
  | zero => rw [Finset.sum_range_zero, add_zero]; rfl
  | succ N ih => rw [Finset.sum_range_succ, ← add_assoc, ← ih]; exact h N _ y

/-- What the loop's pixel `k` gives to one entry. -/
def pixelGives (s : ℕ) (x3 : S1x512x32.Idx → EReal) (x4 x5 x6 : S1x1x8x64.Idx → EReal) (ch : Fin 33) (R : ℕ) (k : Fin 512) : EReal :=
  splat (x4 (at64 k) + ((((s * 512 + k.val) % 384 : ℕ) : ℝ) : EReal)) (x5 (at64 k) + ((((s * 512 + k.val) / 384 : ℕ) : ℝ) : EReal))
    (valueOf (fun c => x3 (ix3 (0 : Fin 1) k c)) (x6 (at64 k)) ch) R

/-- One trip, read at an entry, in terms of the blocks. -/
theorem tripPut_gives (i : grid0.Coords) (x3 : S1x512x32.Idx → EReal) (x4 x5 x6 : S1x1x8x64.Idx → EReal) (k : Fin k0_t1_loop.trips)
    (X : Acc Ideal) (y : S1x36864x33.Idx) :
    tripPut (F := Ideal) i x3 x4 x5 x6 k X y = X y + pixelGives (i 2).val x3 x4 x5 x6 (y 2) (rowAt i (y 1)) (k.cast trips_eq) := by
  rw [tripPut_apply]
  have e : rowOf (F := Ideal) x3 x6 k (ix2 (0 : Fin 1) (y 2)) = _ := rowOf_apply x3 x6 k (y 2)
  have e4 := elt1_eq x4 k
  have e5 := elt1_eq x5 k
  unfold pixelGives
  refine congrArg (X y + ·) ?_
  exact congr (congr (congr (congrArg splat (congrArg (· + _) e4)) (congrArg (· + _) e5)) e) rfl

/-- A block's 512 trips, read at an entry: what the entry held plus what the block's pixels give it. -/
theorem blockPut_apply (i : grid0.Coords) (x3 : S1x512x32.Idx → EReal) (x4 x5 x6 : S1x1x8x64.Idx → EReal) (X : Acc Ideal) (y : S1x36864x33.Idx) :
    blockPut (F := Ideal) i x3 x4 x5 x6 X y = X y + ∑ k : Fin 512, pixelGives (i 2).val x3 x4 x5 x6 (y 2) (rowAt i (y 1)) k := by
  unfold blockPut
  rw [iter_add (tripN (F := Ideal) i x3 x4 x5 x6) (fun n y => if h : n < k0_t1_loop.trips then
    pixelGives (i 2).val x3 x4 x5 x6 (y 2) (rowAt i (y 1)) ((⟨n, h⟩ : Fin k0_t1_loop.trips).cast trips_eq) else 0)]
  · rw [Finset.sum_range]
    refine congrArg (X y + ·) (Fintype.sum_equiv (finCongr trips_eq) _ _ fun k => ?_)
    rw [dif_pos k.isLt]; rfl
  · intro n X y
    unfold tripN
    by_cases h : n < k0_t1_loop.trips
    · rw [dif_pos h, dif_pos h]; exact tripPut_gives i x3 x4 x5 x6 ⟨n, h⟩ X y
    · rw [dif_neg h, dif_neg h, add_zero]

end Cert.Proof
end
-- ==== Proof.Blocks.lean ====
/-
  The scatter call over the extended reals: its accumulator array ends, at every entry, at the sum over the image's pixels
  of what each gives that entry.
-/
module

public import proofs.«01_k».proof.Proof.Add
public import proofs.«01_k».proof.Proof.Records
public import Idealize.ShloMosaic.Lib.Pipeline.ValueKit
public import Idealize.ShloMosaic.Lib.Pointwise

@[expose] public section

set_option maxRecDepth 16384
set_option maxHeartbeats 1000000

noncomputable section

namespace Cert.Proof

open Idealize.ShloMosaic Cert.KernelIdeal Cert.KernelIdeal.Gen
open Idealize.ShloMosaic.TcCoe
open Idealize.ShloMosaic.Pipeline (Dat)

/-- The accumulator call's blocks, by the grid's coordinates. -/
theorem index0_0 : ∀ t : Fin cfg0.N, win0_0.index t = ![(grid0.coords t 0).val, (grid0.coords t 2).val, 0] := (by decide +kernel : ∀ t : Fin grid0.N, _)
/-- The blocks of the horizontal flow. -/
theorem index0_1 : ∀ t : Fin cfg0.N, win0_1.index t = ![(grid0.coords t 0).val, (grid0.coords t 2).val, 0, 0] := (by decide +kernel : ∀ t : Fin grid0.N, _)
/-- The blocks of the vertical flow. -/
theorem index0_2 : ∀ t : Fin cfg0.N, win0_2.index t = ![(grid0.coords t 0).val, (grid0.coords t 2).val, 0, 0] := (by decide +kernel : ∀ t : Fin grid0.N, _)
/-- The blocks of the metric. -/
theorem index0_3 : ∀ t : Fin cfg0.N, win0_3.index t = ![(grid0.coords t 0).val, (grid0.coords t 2).val, 0, 0] := (by decide +kernel : ∀ t : Fin grid0.N, _)
/-- The blocks of the accumulator. -/
theorem index0_4 : ∀ t : Fin cfg0.N, win0_4.index t = ![(grid0.coords t 0).val, (grid0.coords t 1).val, 0] := (by decide +kernel : ∀ t : Fin grid0.N, _)

variable (V : Vals Ideal) (c : Dev nD)

/-- What point `t` of the grid gives to one entry. -/
def pointGives (t : ℕ) (ch : Fin 33) (R : ℕ) : EReal :=
  if h : t < cfg0.N then
    ∑ k : Fin 512, pixelGives (t % 288) (in0 V c ⟨t, h⟩) (in1 V c ⟨t, h⟩) (in2 V c ⟨t, h⟩) (in3 V c ⟨t, h⟩) ch R k
  else 0

/-- One point, read at an entry: what the entry held when the point began plus what the point gives it. -/
theorem stepAt_apply (t : ℕ) (h : t < cfg0.N) (X : Acc Ideal) (y : S1x36864x33.Idx) :
    stepAt V c ⟨t, h⟩ X y = startAt (grid0.coords ⟨t, h⟩) X y + pointGives V c t (y 2) (t / 288 % 4 * 36864 + (y 1).val) := by
  unfold stepAt pointGives
  rw [dif_pos h, blockPut_apply]
  refine congrArg (_ + ·) (Finset.sum_congr rfl fun k _ => ?_)
  unfold rowAt
  rw [coords0_2, coords0_1]

/-- The accumulator after the point `s` of a chunk's run: the sum of what the run's points up to it give. -/
theorem acc_apply (q s : ℕ) (hs : s < 288) (h : q * 288 + s < cfg0.N) (y : S1x36864x33.Idx) :
    acc V c (q * 288 + s) h y = ∑ j ∈ Finset.range (s + 1), pointGives V c (q * 288 + j) (y 2) (q % 4 * 36864 + (y 1).val) := by
  induction s with
  | zero =>
    have e : ∃ X, acc V c (q * 288 + 0) h = stepAt V c ⟨q * 288 + 0, h⟩ X := by
      generalize q * 288 + 0 = n at h
      cases n with
      | zero => exact ⟨_, rfl⟩
      | succ n => exact ⟨_, rfl⟩
    obtain ⟨X, e⟩ := e
    have h0 : (grid0.coords (⟨q * 288 + 0, h⟩ : Fin cfg0.N) 2).val = 0 := by rw [coords0_2]; show (q * 288 + 0) % 288 = 0; omega
    rw [e, stepAt_apply]
    unfold startAt
    rw [if_pos h0, Finset.sum_range_one, show (q * 288 + 0) / 288 % 4 = q % 4 by omega]
    refine Eq.trans (congrArg (· + _) ?_) (zero_add _)
    exact Ideal.ofBits_zero_f32
  | succ s ih =>
    have h' : q * 288 + s < cfg0.N := Nat.lt_of_succ_lt h
    have e : acc V c (q * 288 + (s + 1)) h = stepAt V c ⟨q * 288 + (s + 1), h⟩ (acc V c (q * 288 + s) h') := rfl
    have h0 : ¬ (grid0.coords (⟨q * 288 + (s + 1), h⟩ : Fin cfg0.N) 2).val = 0 := by rw [coords0_2]; show ¬ (q * 288 + (s + 1)) % 288 = 0; omega
    rw [e, stepAt_apply]
    unfold startAt
    rw [if_neg h0, ih (by omega) h', Finset.sum_range_succ _ (s + 1), show (q * 288 + (s + 1)) / 288 % 4 = q % 4 by omega]

/-- The index of the image's pixel `p` of image `n` in an array of blocks of 8 rows of 64. -/
abbrev atPix (n : Fin 4) (p : Fin 147456) : S4x288x8x64.Idx :=
  ix4 n (⟨p.val / 512, by omega⟩ : Fin 288) (⟨p.val % 512 / 64, by omega⟩ : Fin 8) (⟨p.val % 64, by omega⟩ : Fin 64)

/-- What the image's pixel `p` of image `n` gives to value `ch` of position `R`, of the arrays the call is entered with. -/
def given (x1 : S4x147456x32.Idx → EReal) (x4 x7 x8 : S4x288x8x64.Idx → EReal) (n : Fin 4) (ch : Fin 33) (R : ℕ) (p : Fin 147456) : EReal :=
  splat (x4 (atPix n p) + (((p.val % 384 : ℕ) : ℝ) : EReal)) (x7 (atPix n p) + (((p.val / 384 : ℕ) : ℝ) : EReal))
    (valueOf (fun u => x1 (ix3 n p u)) (x8 (atPix n p)) ch) R

/-- A point's pixel is the image's pixel of its number. -/
theorem pixelGives_eq (t : Fin cfg0.N) (ch : Fin 33) (R : ℕ) (k : Fin 512) :
    pixelGives (t.val % 288) (in0 V c t) (in1 V c t) (in2 V c t) (in3 V c t) ch R k
      = given (V c main_v1) (V c main_v4) (V c main_v7) (V c main_v8) (⟨t.val / 1152 % 4, by omega⟩ : Fin 4) ch R ⟨t.val % 288 * 512 + k.val, by omega⟩ := by
  have c0 := coords0_0 t
  have c2 := coords0_2 t
  have e0 : ∀ u, in0 V c t (ix3 (0 : Fin 1) k u) = V c main_v1 (ix3 (⟨t.val / 1152 % 4, by omega⟩ : Fin 4) (⟨t.val % 288 * 512 + k.val, by omega⟩ : Fin 147456) u) := by
    intro u
    blk_ext! [in0, index0_0 t]
  have e1 : in1 V c t (at64 k) = V c main_v4 (atPix (⟨t.val / 1152 % 4, by omega⟩ : Fin 4) ⟨t.val % 288 * 512 + k.val, by omega⟩) := by
    blk_ext! [in1, at64, atPix, index0_1 t]
  have e2 : in2 V c t (at64 k) = V c main_v7 (atPix (⟨t.val / 1152 % 4, by omega⟩ : Fin 4) ⟨t.val % 288 * 512 + k.val, by omega⟩) := by
    blk_ext! [in2, at64, atPix, index0_2 t]
  have e3 : in3 V c t (at64 k) = V c main_v8 (atPix (⟨t.val / 1152 % 4, by omega⟩ : Fin 4) ⟨t.val % 288 * 512 + k.val, by omega⟩) := by
    blk_ext! [in3, at64, atPix, index0_3 t]
  unfold pixelGives given
  rw [e1, e2, e3, funext e0]

/-- A run of 288 points gives what all the image's pixels give. -/
theorem run_gives (q : ℕ) (hq : q < 16) (ch : Fin 33) (R : ℕ) :
    ∑ j ∈ Finset.range 288, pointGives V c (q * 288 + j) ch R = ∑ p : Fin 147456, given (V c main_v1) (V c main_v4) (V c main_v7) (V c main_v8) (⟨q / 4, by omega⟩ : Fin 4) ch R p := by
  rw [Fin.sum_univ_tiles 288 512 rfl, Finset.sum_range]
  refine Finset.sum_congr rfl fun s _ => ?_
  have hN : cfg0.N = 4608 := N_0
  have h : q * 288 + s.val < cfg0.N := by omega
  unfold pointGives
  rw [dif_pos h]
  refine Finset.sum_congr rfl fun k _ => ?_
  refine (pixelGives_eq V c ⟨q * 288 + s.val, h⟩ ch R k).trans ?_
  congr 1
  · exact Fin.ext (by show (q * 288 + s.val) / 1152 % 4 = q / 4; omega)
  · exact Fin.ext (by show (q * 288 + s.val) % 288 * 512 + k.val = s.val * 512 + k.val; omega)

/-- The accumulator after the last point of a chunk's run: what all the image's pixels give. -/
theorem acc_last (t : Fin cfg0.N) (ht : t.val % 288 = 287) (y : S1x36864x33.Idx) :
    acc V c t.val t.isLt y = ∑ p : Fin 147456, given (V c main_v1) (V c main_v4) (V c main_v7) (V c main_v8) (⟨t.val / 1152 % 4, by omega⟩ : Fin 4) (y 2) (t.val / 288 % 4 * 36864 + (y 1).val) p := by
  have hN : cfg0.N = 4608 := N_0
  obtain ⟨n, hn⟩ := t
  replace ht : n % 288 = 287 := ht
  obtain ⟨q, rfl⟩ : ∃ q, n = q * 288 + 287 := ⟨n / 288, by omega⟩
  have hq : q < 16 := by omega
  refine (acc_apply V c q 287 (by omega) hn y).trans ((run_gives V c q hq (y 2) _).trans ?_)
  have e0 : (⟨q / 4, by omega⟩ : Fin 4) = ⟨(q * 288 + 287) / 1152 % 4, by omega⟩ := Fin.ext (by show q / 4 = (q * 288 + 287) / 1152 % 4; omega)
  have e1 : q % 4 = (q * 288 + 287) / 288 % 4 := by omega
  rw [e0, e1]

/-- The accumulator array after the call: at every entry, what all the pixels of its image give it. -/
theorem out9_eq : out9 V c = fun z : S4x147456x33.Idx => ∑ p : Fin 147456, given (V c main_v1) (V c main_v4) (V c main_v7) (V c main_v8) (z 0) (z 2) (z 1).val p := by
  unfold out9
  refine (dat0 V c).arrAt_eq_of_covers 4 _ (by decide +kernel) fun t hf y => ?_
  have ht : t.val % 288 = 287 := (flush0_4 t).mp hf
  have c0 := coords0_0 t
  have c1 := coords0_1 t
  refine (acc_last V c t ht y).trans ?_
  have h0 : (y 0).val < 1 := (y 0).isLt
  have z0 : (⟨t.val / 1152 % 4, by omega⟩ : Fin 4) = (win0_4.blk t).view.emb y 0 := Fin.ext (by show t.val / 1152 % 4 = _; blk_simp [index0_4 t]; omega)
  have z1 : t.val / 288 % 4 * 36864 + (y 1).val = win0_4.index t 1 * 36864 + (y 1).val := by rw [index0_4 t]; exact congrArg (· * 36864 + (y 1).val) c1.symm
  have z2 : y 2 = (win0_4.blk t).view.emb y 2 := Fin.ext (by blk_simp [index0_4 t])
  blk_simp
  rw [z0, z1, z2]

end Cert.Proof
end
-- ==== Proof.Host.lean ====
/-
  The kernel's result over the extended reals: each entry is a quotient of two sums over the image's pixels, in terms of
  the launch's arguments.
-/
module

public import proofs.«01_k».proof.Proof.Blocks
public import proofs.«01_k».proof.Proof.Run

@[expose] public section

set_option maxRecDepth 16384
set_option maxHeartbeats 1000000

noncomputable section

namespace Cert.Proof

open Idealize.ShloMosaic Cert.KernelIdeal Cert.KernelIdeal.Gen
open Idealize.ShloMosaic.TcCoe Idealize.ShloMosaic.Tactic
open Idealize.ShloMosaic.Pipeline (Dat)

/-- The image row and column of pixel `p`. -/
abbrev rowOfPix (p : Fin 147456) : Fin 384 := ⟨p.val / 384, by omega⟩
/-- The image column of pixel `p`. -/
abbrev colOfPix (p : Fin 147456) : Fin 384 := ⟨p.val % 384, by omega⟩

/-- What the image's pixel `p` of image `n` gives to value `ch` of position `R`, of the launch's arguments. -/
def gift (a0 : S4x32x384x384.Idx → EReal) (a1 : S4x2x384x384.Idx → EReal) (a2 : S4x1x384x384.Idx → EReal) (n : Fin 4) (ch : Fin 33) (R : ℕ) (p : Fin 147456) : EReal :=
  splat (a1 (ix4 n (0 : Fin 2) (rowOfPix p) (colOfPix p)) + (((p.val % 384 : ℕ) : ℝ) : EReal))
    (a1 (ix4 n (1 : Fin 2) (rowOfPix p) (colOfPix p)) + (((p.val / 384 : ℕ) : ℝ) : EReal))
    (valueOf (fun u => a0 (ix4 n u (rowOfPix p) (colOfPix p))) (a2 (ix4 n (0 : Fin 1) (rowOfPix p) (colOfPix p))) ch) R

variable (m : (ℓ : Loc nD τ sig) → Buf (Elt Ideal) ℓ) (c : Dev nD)

/-- The channels as the scatter call is given them. -/
theorem v1_apply (n : Fin 4) (p : Fin 147456) (u : Fin 32) :
    enter0 m c main_v1 (ix3 n p u) = m ((c : Thread nD τ).loc main_arg0) (ix4 n u (rowOfPix p) (colOfPix p)) := by
  unfold enter0 V1
  entry_read
  pointwise
  blk_ext []

/-- The horizontal flow as the scatter call is given it. -/
theorem v4_apply (n : Fin 4) (p : Fin 147456) :
    enter0 m c main_v4 (atPix n p) = m ((c : Thread nD τ).loc main_arg1) (ix4 n (0 : Fin 2) (rowOfPix p) (colOfPix p)) := by
  unfold enter0 V1 atPix
  entry_read
  pointwise
  blk_ext []

/-- The vertical flow as the scatter call is given it. -/
theorem v7_apply (n : Fin 4) (p : Fin 147456) :
    enter0 m c main_v7 (atPix n p) = m ((c : Thread nD τ).loc main_arg1) (ix4 n (1 : Fin 2) (rowOfPix p) (colOfPix p)) := by
  unfold enter0 V1 atPix
  entry_read
  pointwise
  blk_ext []

/-- The metric as the scatter call is given it. -/
theorem v8_apply (n : Fin 4) (p : Fin 147456) :
    enter0 m c main_v8 (atPix n p) = m ((c : Thread nD τ).loc main_arg2) (ix4 n (0 : Fin 1) (rowOfPix p) (colOfPix p)) := by
  unfold enter0 V1 atPix
  entry_read
  pointwise
  blk_ext []

/-- What the scatter call's pixels give, of the launch's arguments. -/
theorem given_eq (n : Fin 4) (ch : Fin 33) (R : ℕ) (p : Fin 147456) :
    given (enter0 m c main_v1) (enter0 m c main_v4) (enter0 m c main_v7) (enter0 m c main_v8) n ch R p
      = gift (m ((c : Thread nD τ).loc main_arg0)) (m ((c : Thread nD τ).loc main_arg1)) (m ((c : Thread nD τ).loc main_arg2)) n ch R p := by
  unfold given gift
  rw [v4_apply, v7_apply, v8_apply, funext (fun u => v1_apply m c n p u)]

/-- The normalising call's blocks, by the grid's coordinates. -/
theorem index1_0 : ∀ t : Fin cfg1.N, win1_0.index t = ![(grid1.coords t 0).val, (grid1.coords t 1).val, 0] := (by decide +kernel : ∀ t : Fin grid1.N, _)
/-- The blocks of its result. -/
theorem index1_1 : ∀ t : Fin cfg1.N, win1_1.index t = ![(grid1.coords t 0).val, (grid1.coords t 1).val, 0] := (by decide +kernel : ∀ t : Fin grid1.N, _)

/-- The float constant that the sums of weights are moved from zero by. -/
abbrev small : EReal := Ideal.ofBits .f32 0x33D6BF95#32

/-- An entry's quotient: a channel's sum over the weights' sum, moved from zero. -/
def quot (x : S4x147456x33.Idx → EReal) (z : S4x147456x32.Idx) : EReal :=
  Ideal.div (x (ix3 (z 0) (z 1) (⟨(z 2).val, (z 2).isLt.trans (by decide)⟩ : Fin 33))) (x (ix3 (z 0) (z 1) (32 : Fin 33)) + small)

/-- The normalising call's result array: the quotients. -/
theorem out10_eq (W : Vals Ideal) : out10 W c = quot (W c main_v9) := by
  unfold out10
  refine (dat1 W c).arrAt_eq_of_covers 1 _ (by decide +kernel) fun t hf y => ?_
  refine (show _ = k1_pay1 (F := Ideal) (blk1 W c t) y from rfl).trans ?_
  have h0 : (y 0).val < 1 := (y 0).isLt
  have h1 : (y 1).val < 9216 := (y 1).isLt
  have h2 : (y 2).val < 32 := (y 2).isLt
  pointwise [k1_pay1, quot]
  blk_point [blk1, index1_0 t, index1_1 t]

/-- What all the pixels of image `n` give to value `ch` of position `R`. -/
def total (a0 : S4x32x384x384.Idx → EReal) (a1 : S4x2x384x384.Idx → EReal) (a2 : S4x1x384x384.Idx → EReal) (n : Fin 4) (ch : Fin 33) (R : ℕ) : EReal :=
  ∑ p : Fin 147456, gift a0 a1 a2 n ch R p

/-- The array that both programs compute: at a position, the channels' sums over the weights' sum, moved from zero. -/
def splatted (a0 : S4x32x384x384.Idx → EReal) (a1 : S4x2x384x384.Idx → EReal) (a2 : S4x1x384x384.Idx → EReal) (n : Fin 4) (u : Fin 32) (y x : Fin 384) : EReal :=
  Ideal.div (total a0 a1 a2 n ⟨u.val, by omega⟩ (y.val * 384 + x.val)) (total a0 a1 a2 n 32 (y.val * 384 + x.val) + small)

/-- The normalising call is entered with what the scatter call left. -/
theorem enter1_v9 : enter1 m c main_v9 = out9 (enter0 m) c := (Function.update_self _ _ _).trans (outsA_v9 m 2 c)

/-- The kernel's result, entry by entry. -/
theorem result_apply (n : Fin 4) (u : Fin 32) (y x : Fin 384) :
    result m c (ix4 n u y x) = splatted (m ((c : Thread nD τ).loc main_arg0)) (m ((c : Thread nD τ).loc main_arg1)) (m ((c : Thread nD τ).loc main_arg2)) n u y x := by
  have e10 : V3 m (outsB m) c main_v10 = quot (out9 (enter0 m) c) :=
    (Function.update_self _ _ _).trans ((outsB_v10 m 3 c).trans ((out10_eq c (enter1 m)).trans (congrArg quot (enter1_v9 m c))))
  have e9 : ∀ R : Fin 147456, ∀ ch : Fin 33, out9 (enter0 m) c (ix3 n R ch) = total (m ((c : Thread nD τ).loc main_arg0)) (m ((c : Thread nD τ).loc main_arg1)) (m ((c : Thread nD τ).loc main_arg2)) n ch R.val := by
    intro R ch
    have e : (∑ p : Fin 147456, given (enter0 m c main_v1) (enter0 m c main_v4) (enter0 m c main_v7) (enter0 m c main_v8) n ch R.val p : EReal)
        = total (m ((c : Thread nD τ).loc main_arg0)) (m ((c : Thread nD τ).loc main_arg1)) (m ((c : Thread nD τ).loc main_arg2)) n ch R.val :=
      Finset.sum_congr rfl fun p _ => given_eq m c n ch R.val p
    exact (congrFun (out9_eq (enter0 m) c) (ix3 n R ch)).trans e
  have ht : result m c (ix4 n u y x) = V3 m (outsB m) c main_v10 (ix3 n (⟨y.val * 384 + x.val, by omega⟩ : Fin 147456) u) := by
    unfold result V4
    entry_read
    pointwise
    blk_ext []
  rw [ht, e10]
  unfold quot splatted
  exact congr (congrArg Ideal.div (e9 _ _)) (congrArg (fun v : EReal => v + small) (e9 _ _))

end Cert.Proof
end
-- ==== Proof.RefSum.lean ====
/-
  The reference's result over the extended reals: entry by entry, the same quotient of the same two sums over the image's
  pixels as the kernel's.
-/
module

public import proofs.«01_k».proof.Proof.Rows
public import proofs.«01_k».proof.Proof.Agree
public import proofs.«01_k».proof.Proof.Host

@[expose] public section

set_option maxRecDepth 16384
set_option maxHeartbeats 1000000

noncomputable section

namespace Cert.Proof.Ref

open Cert.ReferenceIdeal Cert.ReferenceIdeal.Gen Cert.ReferenceIdeal.Value
open Idealize.ShloMosaic Idealize.ShloMosaic.StableHlo

variable (V0 : Valuation τ sig (Elt Ideal))

/-- The pixels' rows, an image after the other: pixel `p` of image `b`. -/
abbrev pixOf (b : Fin 4) (p : Fin 147456) : Fin 589824 := ⟨b.val * 147456 + p.val, by omega⟩

/-- The reference's arguments. -/
abbrev A0 : S4x32x384x384.Idx → EReal := V0 (Proc.devRef .tc main_arg0)
/-- The flow. -/
abbrev A1 : S4x2x384x384.Idx → EReal := V0 (Proc.devRef .tc main_arg1)
/-- The metric. -/
abbrev A2 : S4x1x384x384.Idx → EReal := V0 (Proc.devRef .tc main_arg2)

/-- An update's value before its weight. -/
abbrev valAt (j : Fin 589824) (ch : Fin 33) : EReal := res_main_v22 V0 (ix2 j ch)
/-- Where a pixel's row flows, horizontally. -/
abbrev xAt (j : Fin 589824) : EReal := res_main_v12 V0 (ix1 j)
/-- Where a pixel's row flows, vertically. -/
abbrev yAt (j : Fin 589824) : EReal := res_main_v17 V0 (ix1 j)

/-- The place in the arguments of a pixel's row. -/
theorem place (b : Fin 4) (p : Fin 147456) {C : ℕ} (k : Fin C) (h0 : (b.val * 147456 + p.val) / 147456 < 4) (h1 : (b.val * 147456 + p.val) / 384 % 384 < 384) (h2 : (b.val * 147456 + p.val) % 384 < 384) :
    ix4 (⟨(b.val * 147456 + p.val) / 147456, h0⟩ : Fin 4) k (⟨(b.val * 147456 + p.val) / 384 % 384, h1⟩ : Fin 384) (⟨(b.val * 147456 + p.val) % 384, h2⟩ : Fin 384) = ix4 b k (rowOfPix p) (colOfPix p) := by
  congr 1
  · exact Fin.ext (by show (b.val * 147456 + p.val) / 147456 = b.val; omega)
  · exact Fin.ext (by show (b.val * 147456 + p.val) / 384 % 384 = p.val / 384; omega)
  · exact Fin.ext (by show (b.val * 147456 + p.val) % 384 = p.val % 384; omega)

/-- A small number's word, read as a real. -/
theorem word_real (n : ℕ) (h : n < 384) : (((BitVec.ofNat 32 n).toInt : ℝ) : EReal) = ((n : ℝ) : EReal) := by
  rw [WordCmp.toInt_ofNat_of_lt (by omega)]; norm_cast

/-- Where a pixel flows, horizontally. -/
theorem x_apply (b : Fin 4) (p : Fin 147456) :
    res_main_v12 V0 (ix1 (pixOf b p)) = A1 V0 (ix4 b (0 : Fin 2) (rowOfPix p) (colOfPix p)) + (((p.val % 384 : ℕ) : ℝ) : EReal) := by
  pointwise [res_main_v12]
  refine (add_comm (_ : EReal) (_ : EReal)).trans (congrArg₂ (fun u v : EReal => u + v) (congrArg (A1 V0) (place b p _ _ _ _)) ?_)
  refine (word_real _ (by omega)).trans ?_
  rw [show (b.val * 147456 + p.val) % 384 = p.val % 384 by omega]

/-- Where a pixel flows, vertically. -/
theorem y_apply (b : Fin 4) (p : Fin 147456) :
    res_main_v17 V0 (ix1 (pixOf b p)) = A1 V0 (ix4 b (1 : Fin 2) (rowOfPix p) (colOfPix p)) + (((p.val / 384 : ℕ) : ℝ) : EReal) := by
  pointwise [res_main_v17]
  refine (add_comm (_ : EReal) (_ : EReal)).trans (congrArg₂ (fun u v : EReal => u + v) (congrArg (A1 V0) (place b p _ _ _ _)) ?_)
  refine (word_real _ (by omega)).trans ?_
  rw [show (b.val * 147456 + p.val) / 384 % 384 = p.val / 384 by omega]

/-- A pixel's image. -/
theorem image_apply (b : Fin 4) (p : Fin 147456) : res_main_v20 V0 (ix1 (pixOf b p)) = BitVec.ofNat 32 b.val := by
  pointwise [res_main_v20]
  congr 1; omega

/-- A pixel's values. -/
theorem value_apply (b : Fin 4) (p : Fin 147456) (ch : Fin 33) :
    res_main_v22 V0 (ix2 (pixOf b p) ch)
      = valueOf (fun u => A0 V0 (ix4 b u (rowOfPix p) (colOfPix p))) (A2 V0 (ix4 b (0 : Fin 1) (rowOfPix p) (colOfPix p))) ch := by
  pointwise [res_main_v22, res_main_v0]
  unfold valueOf
  by_cases h : ch.val < 32
  · rw [dif_pos h, dif_pos h]
    exact congrArg₂ (fun u v : EReal => u * Ideal.exp v) (congrArg (A0 V0) (place b p _ _ _ _)) (congrArg (A2 V0) (place b p _ _ _ _))
  · rw [dif_neg h, dif_neg h]
    refine congrArg (fun i => Ideal.exp (A2 V0 i)) ((place b p _ _ _ _).trans ?_)
    congr 1; exact Fin.ext (by show ch.val - 32 = 0; omega)

/-- The finite test of a pixel's flow. -/
theorem finite_apply (j : Fin 589824) :
    res_main_v29 V0 (ix1 j) = IntOp.andi (finiteBit (res_main_v12 V0 (ix1 j))) (finiteBit (res_main_v17 V0 (ix1 j))) := by
  pointwise [res_main_v29]
  rfl

/-- The scatter's index words for corners at `px`, `py`. -/
def wordsAt (px py : FVec Ideal S589824 .f32) : IVec S589824 32 :=
  addi (addi (muli (res_main_v20 V0) (broadcastInDim S589824 ![] bcast_S_S589824 (constantI S_ 32 147456#32))) (muli (minsi (broadcastInDim S589824 ![] bcast_S_S589824 (constantI S_ 32 383#32)) (maxsi (broadcastInDim S589824 ![] bcast_S_S589824 (constantI S_ 32 0#32)) (fptosi 32 py))) (broadcastInDim S589824 ![] bcast_S_S589824 (constantI S_ 32 384#32)))) (minsi (broadcastInDim S589824 ![] bcast_S_S589824 (constantI S_ 32 383#32)) (maxsi (broadcastInDim S589824 ![] bcast_S_S589824 (constantI S_ 32 0#32)) (fptosi 32 px)))

/-- The scatter's index column for corners at `px`, `py`. -/
def indexAt (px py : FVec Ideal S589824 .f32) : IVec S589824x1 32 :=
  broadcastInDim S589824x1 ![0] bcast_S589824_S589824x1_0 (select (cmpi .slt (wordsAt V0 px py) (broadcastInDim S589824 ![] bcast_S_S589824 (constantI S_ 32 0#32))) (addi (wordsAt V0 px py) (broadcastInDim S589824 ![] bcast_S_S589824 (constantI S_ 32 589824#32))) (wordsAt V0 px py))

/-- The scatter's updates for corners at `px`, `py` with the axes' weights `wx`, `wy`. -/
def updatesAt (px py wx wy : FVec Ideal S589824 .f32) : FVec Ideal S589824x33 .f32 :=
  mulf (res_main_v22 V0) (broadcastInDim S589824x33 ![0, 1] bcast_S589824x1_S589824x33_0_1 (broadcastInDim S589824x1 ![0] bcast_S589824_S589824x1_0 (mulf (mulf wx wy) (uitofp .f32 (andi (andi (andi (andi (res_main_v29 V0) (cmpf .oge px (broadcastInDim S589824 ![] bcast_S_S589824 (constant S_ .f32 0x00000000#32)))) (cmpf .olt px (broadcastInDim S589824 ![] bcast_S_S589824 (constant S_ .f32 0x43C00000#32)))) (cmpf .oge py (broadcastInDim S589824 ![] bcast_S_S589824 (constant S_ .f32 0x00000000#32)))) (cmpf .olt py (broadcastInDim S589824 ![] bcast_S_S589824 (constant S_ .f32 0x43C00000#32))))))))

/-- An index word, read. -/
theorem indexAt_apply (px py : FVec Ideal S589824 .f32) (b : Fin 4) (p : Fin 147456) :
    indexAt V0 px py (ix2 (pixOf b p) (0 : Fin 1)) = wrapped (rowWord b.val (px (ix1 (pixOf b p))) (py (ix1 (pixOf b p)))) := by
  have e : wordsAt V0 px py (ix1 (pixOf b p)) = rowWord b.val (px (ix1 (pixOf b p))) (py (ix1 (pixOf b p))) := by
    pointwise [wordsAt]
    rw [image_apply]
    rfl
  pointwise [indexAt]
  rw [e]

/-- An update, read. -/
theorem updatesAt_apply (px py wx wy : FVec Ideal S589824 .f32) (j : Fin 589824) (ch : Fin 33) :
    (updatesAt V0 px py wx wy (ix2 j ch) : EReal) = valAt V0 j ch * ((wx (ix1 j) * wy (ix1 j)) *
      (((validBit (IntOp.andi (finiteBit (res_main_v12 V0 (ix1 j))) (finiteBit (res_main_v17 V0 (ix1 j)))) (px (ix1 j)) (py (ix1 j))).toNat : ℝ) : EReal)) := by
  pointwise [updatesAt]
  rw [finite_apply]
  unfold validBit
  rw [Ideal.ofBits_zero_f32]
  rfl

/-- The scatter's one corner, added over all pixels of all images: the corner's shares of the entry's own image. -/
theorem corner_sum (px py wx wy : FVec Ideal S589824 .f32)
    (hx : ∀ j, AxisOk (res_main_v12 V0 (ix1 j)) (px (ix1 j)) (wx (ix1 j))) (hy : ∀ j, AxisOk (res_main_v17 V0 (ix1 j)) (py (ix1 j)) (wy (ix1 j)))
    (n : Fin 4) (R : Fin 147456) (ch : Fin 33) :
    (∑ j : Fin 589824, if (indexAt V0 px py (ix2 j (0 : Fin 1))).toInt = ((pixOf n R).val : ℤ) then (updatesAt V0 px py wx wy (ix2 j ch) : EReal) else 0)
      = ∑ p : Fin 147456, share (res_main_v12 V0 (ix1 (pixOf n p))) (res_main_v17 V0 (ix1 (pixOf n p))) (px (ix1 (pixOf n p))) (py (ix1 (pixOf n p))) (valAt V0 (pixOf n p) ch) R.val := by
  rw [Fin.sum_univ_tiles 4 147456 rfl]
  have e : ∀ b : Fin 4, ∀ p : Fin 147456, (if (indexAt V0 px py (ix2 (pixOf b p) (0 : Fin 1))).toInt = ((pixOf n R).val : ℤ) then (updatesAt V0 px py wx wy (ix2 (pixOf b p) ch) : EReal) else 0)
      = if b = n then share (res_main_v12 V0 (ix1 (pixOf b p))) (res_main_v17 V0 (ix1 (pixOf b p))) (px (ix1 (pixOf b p))) (py (ix1 (pixOf b p))) (valAt V0 (pixOf b p) ch) R.val else 0 := by
    intro b p
    rw [indexAt_apply, updatesAt_apply]
    refine (corner_eq _ _ _ _ _ _ _ (hx _) (hy _) b.val n.val R.val b.isLt n.isLt R.isLt).trans ?_
    by_cases h : b = n
    · rw [if_pos h, if_pos (congrArg Fin.val h)]
    · rw [if_neg h, if_neg fun e => h (Fin.ext e)]
  refine (Finset.sum_congr rfl fun b _ => Finset.sum_congr rfl fun p _ => e b p).trans ?_
  rw [Finset.sum_comm]
  refine Finset.sum_congr rfl fun p _ => ?_
  exact (Finset.sum_ite_eq' Finset.univ n fun b => share (res_main_v12 V0 (ix1 (pixOf b p))) (res_main_v17 V0 (ix1 (pixOf b p))) (px (ix1 (pixOf b p))) (py (ix1 (pixOf b p))) (valAt V0 (pixOf b p) ch) R.val).trans (if_pos (Finset.mem_univ n))

/-- One past a flow's integer part. -/
theorem next_apply (j : Fin 589824) : res_main_v40 V0 (ix1 j) = floorE (xAt V0 j) + 1 := by
  pointwise [res_main_v40, res_main_v30]
/-- The same word in the last corner. -/
theorem next_apply' (j : Fin 589824) : res_main_v54 V0 (ix1 j) = floorE (xAt V0 j) + 1 := by
  pointwise [res_main_v54, res_main_v30]
/-- One past a vertical flow's integer part. -/
theorem below_apply (j : Fin 589824) : res_main_v47 V0 (ix1 j) = floorE (yAt V0 j) + 1 := by
  pointwise [res_main_v47, res_main_v31]
/-- The same word in the last corner. -/
theorem below_apply' (j : Fin 589824) : res_main_v56 V0 (ix1 j) = floorE (yAt V0 j) + 1 := by
  pointwise [res_main_v56, res_main_v31]

/-- The weight on the side of the integer part, horizontally. -/
def nearX : FVec Ideal S589824 .f32 := subf (addf (res_main_v30 V0) (broadcastInDim S589824 ![] bcast_S_S589824 (constant S_ .f32 0x3F800000#32))) (res_main_v12 V0)
/-- The weight on the other side, horizontally. -/
def farX : FVec Ideal S589824 .f32 := subf (res_main_v12 V0) (res_main_v30 V0)
/-- The weight on the side of the integer part, vertically. -/
def nearY : FVec Ideal S589824 .f32 := subf (addf (res_main_v31 V0) (broadcastInDim S589824 ![] bcast_S_S589824 (constant S_ .f32 0x3F800000#32))) (res_main_v17 V0)
/-- The weight on the other side, vertically. -/
def farY : FVec Ideal S589824 .f32 := subf (res_main_v17 V0) (res_main_v31 V0)

/-- The weight on the integer part's side, read. -/
theorem nearX_apply (j : Fin 589824) : nearX V0 (ix1 j) = (floorE (xAt V0 j) + 1) - xAt V0 j := by
  pointwise [nearX, res_main_v30]
/-- The weight on the other side, read. -/
theorem farX_apply (j : Fin 589824) : farX V0 (ix1 j) = xAt V0 j - floorE (xAt V0 j) := by
  pointwise [farX, res_main_v30]
/-- The vertical weight on the integer part's side, read. -/
theorem nearY_apply (j : Fin 589824) : nearY V0 (ix1 j) = (floorE (yAt V0 j) + 1) - yAt V0 j := by
  pointwise [nearY, res_main_v31]
/-- The vertical weight on the other side, read. -/
theorem farY_apply (j : Fin 589824) : farY V0 (ix1 j) = yAt V0 j - floorE (yAt V0 j) := by
  pointwise [farY, res_main_v31]

/-- The accumulator before the first scatter. -/
abbrev zeros : FVec Ideal S589824x33 .f32 := broadcastInDim S589824x33 ![] bcast_S_S589824x33 (constant S_ .f32 0x00000000#32)

/-- The four scatters, each over the one before. -/
theorem v196_eq : res_main_v196 V0 =
    Host.scatterAdd byRows (Host.scatterAdd byRows (Host.scatterAdd byRows (Host.scatterAdd byRows zeros
      (indexAt V0 (res_main_v30 V0) (res_main_v31 V0)) (updatesAt V0 (res_main_v30 V0) (res_main_v31 V0) (nearX V0) (nearY V0)))
      (indexAt V0 (res_main_v40 V0) (res_main_v31 V0)) (updatesAt V0 (res_main_v40 V0) (res_main_v31 V0) (farX V0) (nearY V0)))
      (indexAt V0 (res_main_v30 V0) (res_main_v47 V0)) (updatesAt V0 (res_main_v30 V0) (res_main_v47 V0) (nearX V0) (farY V0)))
      (indexAt V0 (res_main_v54 V0) (res_main_v56 V0)) (updatesAt V0 (res_main_v54 V0) (res_main_v56 V0) (farX V0) (farY V0)) := rfl

/-- Four sums added are one sum of the four terms. -/
theorem four_sums {N : Nat} (f g h k : Fin N → EReal) : (((∑ p, f p) + ∑ p, g p) + ∑ p, h p) + ∑ p, k p = ∑ p, (((f p + g p) + h p) + k p) := by
  rw [Finset.sum_add_distrib, Finset.sum_add_distrib, Finset.sum_add_distrib]

/-- The reference's accumulator, entry by entry: what all the image's pixels give it. -/
theorem v196_apply (n : Fin 4) (R : Fin 147456) (ch : Fin 33) :
    res_main_v196 V0 (ix2 (pixOf n R) ch) = total (A0 V0) (A1 V0) (A2 V0) n ch R.val := by
  have hz : zeros (ix2 (pixOf n R) ch) = (0 : EReal) := Ideal.ofBits_zero_f32
  have fx : ∀ j, AxisOk (xAt V0 j) (res_main_v30 V0 (ix1 j)) (nearX V0 (ix1 j)) := fun j => by rw [nearX_apply]; exact axis_floor _
  have fy : ∀ j, AxisOk (yAt V0 j) (res_main_v31 V0 (ix1 j)) (nearY V0 (ix1 j)) := fun j => by rw [nearY_apply]; exact axis_floor _
  have gx : ∀ j, AxisOk (xAt V0 j) (res_main_v40 V0 (ix1 j)) (farX V0 (ix1 j)) := fun j => by rw [farX_apply, next_apply]; exact axis_next _
  have gx' : ∀ j, AxisOk (xAt V0 j) (res_main_v54 V0 (ix1 j)) (farX V0 (ix1 j)) := fun j => by rw [farX_apply, next_apply']; exact axis_next _
  have gy : ∀ j, AxisOk (yAt V0 j) (res_main_v47 V0 (ix1 j)) (farY V0 (ix1 j)) := fun j => by rw [farY_apply, below_apply]; exact axis_next _
  have gy' : ∀ j, AxisOk (yAt V0 j) (res_main_v56 V0 (ix1 j)) (farY V0 (ix1 j)) := fun j => by rw [farY_apply, below_apply']; exact axis_next _
  rw [v196_eq, scatter_apply, scatter_apply, scatter_apply, scatter_apply, hz, zero_add,
    corner_sum V0 _ _ _ _ fx fy, corner_sum V0 _ _ _ _ gx fy, corner_sum V0 _ _ _ _ fx gy, corner_sum V0 _ _ _ _ gx' gy']
  refine (four_sums _ _ _ _).trans (Finset.sum_congr rfl fun p _ => ?_)
  rw [next_apply, next_apply', below_apply, below_apply']
  have ex : xAt V0 (pixOf n p) = _ := x_apply V0 n p
  have ey : yAt V0 (pixOf n p) = _ := y_apply V0 n p
  have ev : valAt V0 (pixOf n p) ch = _ := value_apply V0 n p ch
  unfold gift splat
  rw [← ex, ← ey, ← ev]
  refine congrArg (fun v : EReal => v + _) ?_
  exact add_right_comm _ _ _

/-- The reference's result, as its run leaves it. -/
def answer : FVec Ideal S4x32x384x384 .f32 :=
  Host.divf (extractStridedSlice S4x32x384x384 ![0, 0, 0, 0] (res_main_v198 V0) slices_S4x33x384x384_S4x32x384x384_0_0_0_0) (broadcastInDim S4x32x384x384 ![0, 1, 2, 3] bcast_S4x1x384x384_S4x32x384x384_0_1_2_3 (addf (extractStridedSlice S4x1x384x384 ![0, 32, 0, 0] (res_main_v198 V0) slices_S4x33x384x384_S4x1x384x384_0_32_0_0) (broadcastInDim S4x1x384x384 ![] bcast_S_S4x1x384x384 (constant S_ .f32 0x33D6BF95#32))))

/-- The reference's accumulator, by image, value, row and column. -/
theorem v198_apply (n : Fin 4) (ch : Fin 33) (y x : Fin 384) :
    res_main_v198 V0 (ix4 n ch y x) = total (A0 V0) (A1 V0) (A2 V0) n ch (y.val * 384 + x.val) := by
  refine Eq.trans ?_ (v196_apply V0 n ⟨y.val * 384 + x.val, by omega⟩ ch)
  pointwise [res_main_v198]
  refine congrArg (fun r : Fin 589824 => res_main_v196 V0 (ix2 r ch)) (Fin.ext ?_)
  exact Nat.add_assoc _ _ _

/-- The reference's result, entry by entry. -/
theorem answer_apply (n : Fin 4) (u : Fin 32) (y x : Fin 384) : answer V0 (ix4 n u y x) = splatted (A0 V0) (A1 V0) (A2 V0) n u y x := by
  unfold splatted
  rw [← v198_apply, ← v198_apply]
  pointwise [answer]

end Cert.Proof.Ref
end
-- ==== Proof.Equal.lean ====
/-
  The kernel's result and the reference's are the same.
-/
module

public import proofs.«01_k».proof.Proof.RefSum
public import proofs.«01_k».proof.Proof.Ref
public import proofs.«01_k».proof.Defs

@[expose] public section

set_option maxRecDepth 16384

noncomputable section

namespace Cert.Proof

namespace Ref

open Cert.ReferenceIdeal Cert.ReferenceIdeal.Gen Cert.ReferenceIdeal.Value
open Idealize.ShloMosaic Idealize.ShloMosaic.TcCoe Idealize.SL.Sem

/-- The reference runs, ends with its answer, and leaves the arguments as they were. -/
theorem run_answer (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v204) = answer (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  unfold answer
  exact Cert.ReferenceIdeal.Value.run (F := Ideal) m ρ

end Ref

open Idealize.ShloMosaic Idealize.ShloMosaic.TcCoe Idealize.SL.Sem

/-- From memories that agree on the arguments the reference's result is the kernel's. -/
theorem answer_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (h0 : Ref.A0 V0 = m ((c : Thread Cert.KernelIdeal.nD Cert.KernelIdeal.τ).loc Cert.KernelIdeal.main_arg0))
    (h1 : Ref.A1 V0 = m ((c : Thread Cert.KernelIdeal.nD Cert.KernelIdeal.τ).loc Cert.KernelIdeal.main_arg1))
    (h2 : Ref.A2 V0 = m ((c : Thread Cert.KernelIdeal.nD Cert.KernelIdeal.τ).loc Cert.KernelIdeal.main_arg2)) :
    Ref.answer V0 = result m c := by
  funext i
  idx_vars i
  rw [Ref.answer_apply, result_apply, h0, h1, h2]

/-- From memories that agree on the arguments the kernel and the reference both run, end with equal results, and leave
    the arguments as they were. -/
theorem algebraic : Cert.algebraic_KernelIdeal_ReferenceIdeal (hKernelIdeal := Cert.KernelIdeal.Gen.facts) (hReferenceIdeal := Cert.ReferenceIdeal.Gen.facts) := by
  intro m g m' g' _ args
  refine ⟨fun c => result m c, ?_, ?_⟩
  · exact θ_run_mono (run m g) fun _ h c => h.1 c
  · refine θ_run_mono (Ref.run_answer m' g') fun _ h c => ?_
    exact ⟨(h c).1.trans (answer_eq m c (StableHlo.launchContents m' c) (args c).1 (args c).2.1 (args c).2.2), (h c).2⟩

end Cert.Proof

end
-- ==== Proof.lean ====
/- The proof of the certificate's claim: the frames of the kernel as compiled, of its ideal reading and of the
   reference, and the equation of the two ideal programs' results. The modules under Proof/ prove the parts. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.Ref
public import proofs.«01_k».proof.Proof.Equal

@[expose] public section

noncomputable section

namespace Cert.Proof

open Idealize.ShloMosaic Idealize.SL.Sem

/-- The claim. -/
theorem claim : Cert.Claim :=
  ⟨Cert.Kernel.Gen.facts, Cert.KernelIdeal.Gen.facts, Cert.ReferenceIdeal.Gen.facts,
    fun m ρ _ => frame_kernel m ρ,
    fun m ρ _ => frame m ρ,
    fun m ρ _ => Ref.frame m ρ,
    trivial, algebraic⟩

end Cert.Proof

end
